-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S128x1536 : Shape := ⟨2, ![128, 1536]⟩
abbrev S768x32000 : Shape := ⟨2, ![768, 32000]⟩
abbrev S12x32000 : Shape := ⟨2, ![12, 32000]⟩
abbrev S250x64x128 : Shape := ⟨3, ![250, 64, 128]⟩
abbrev S128 : Shape := ⟨1, ![128]⟩
abbrev S128x20 : Shape := ⟨2, ![128, 20]⟩
abbrev S_ : Shape := ⟨0, ![]⟩

class Facts : Prop where
  bcast_S_S128x1536 : S_.BroadcastsInDim S128x1536 (![] : Fin 0 → Fin S128x1536.rank)
  bcast_S_S12x32000 : S_.BroadcastsInDim S12x32000 (![] : Fin 0 → Fin S12x32000.rank)
  bcast_S_S128 : S_.BroadcastsInDim S128 (![] : Fin 0 → Fin S128.rank)
  bcast_S_S128x20 : S_.BroadcastsInDim S128x20 (![] : Fin 0 → Fin S128x20.rank)

variable [Facts]

def fn_part1 {F : FTy → Type} [FloatOps F] (main_arg5 : FVec F S128 .f32) (main_arg6 : FVec F S128 .f32) (main_arg7 : IVec S128x20 32) (main_v4 : IVec S128x1536 1) (main_v9 : IVec S12x32000 1) (main_v14 : IVec S128 1) (main_v16 : IVec S128 1) : IVec S128x1536 1 × IVec S12x32000 1 × IVec S128 1 × IVec S128 1 × IVec S128 1 × IVec S128x20 1 :=
  let main_cst_6 : FVec F S_ .f32 := constant S_ .f32 0x7F800000#32
  let main_v17 : FVec F S128 .f32 := broadcastInDim S128 ![] bcast_S_S128 main_cst_6
  let main_v18 : IVec S128 1 := cmpf .olt main_arg5 main_v17
  let main_v19 : IVec S128 1 := andi main_v16 main_v18
  let main_cst_7 : FVec F S_ .f32 := constant S_ .f32 0xFF800000#32
  let main_v20 : FVec F S128 .f32 := broadcastInDim S128 ![] bcast_S_S128 main_cst_7
  let main_v21 : IVec S128 1 := cmpf .ogt main_arg6 main_v20
  let main_cst_8 : FVec F S_ .f32 := constant S_ .f32 0x7F800000#32
  let main_v22 : FVec F S128 .f32 := broadcastInDim S128 ![] bcast_S_S128 main_cst_8
  let main_v23 : IVec S128 1 := cmpf .olt main_arg6 main_v22
  let main_v24 : IVec S128 1 := andi main_v21 main_v23
  let main_cst_9 : FVec F S_ .f32 := constant S_ .f32 0x00000000#32
  let main_v25 : FVec F S128 .f32 := broadcastInDim S128 ![] bcast_S_S128 main_cst_9
  let main_v26 : IVec S128 1 := cmpf .une main_arg6 main_v25
  let main_v27 : IVec S128 1 := andi main_v24 main_v26
  let main_c : IVec S_ 32 := constantI S_ 32 0#32
  let main_v28 : IVec S128x20 32 := broadcastInDim S128x20 ![] bcast_S_S128x20 main_c
  let main_v29 : IVec S128x20 1 := cmpi .sge main_arg7 main_v28
  let main_c_10 : IVec S_ 32 := constantI S_ 32 32000#32
  let main_v30 : IVec S128x20 32 := broadcastInDim S128x20 ![] bcast_S_S128x20 main_c_10
  let main_v31 : IVec S128x20 1 := cmpi .slt main_arg7 main_v30
  let main_v32 : IVec S128x20 1 := andi main_v29 main_v31
  (main_v4, main_v9, main_v14, main_v19, main_v27, main_v32)

def fn {F : FTy → Type} [FloatOps F] (main_arg0 : FVec F S128x1536 .bf16) (main_arg1 : IVec S768x32000 8) (main_arg2 : FVec F S12x32000 .f32) (main_arg3 : IVec S250x64x128 32) (main_arg4 : FVec F S128 .f32) (main_arg5 : FVec F S128 .f32) (main_arg6 : FVec F S128 .f32) (main_arg7 : IVec S128x20 32) : IVec S128x1536 1 × IVec S12x32000 1 × IVec S128 1 × IVec S128 1 × IVec S128 1 × IVec S128x20 1 :=
  let main_cst : FVec F S_ .bf16 := constant S_ .bf16 0xFF80#16
  let main_v0 : FVec F S128x1536 .bf16 := broadcastInDim S128x1536 ![] bcast_S_S128x1536 main_cst
  let main_v1 : IVec S128x1536 1 := cmpf .ogt main_arg0 main_v0
  let main_cst_0 : FVec F S_ .bf16 := constant S_ .bf16 0x7F80#16
  let main_v2 : FVec F S128x1536 .bf16 := broadcastInDim S128x1536 ![] bcast_S_S128x1536 main_cst_0
  let main_v3 : IVec S128x1536 1 := cmpf .olt main_arg0 main_v2
  let main_v4 : IVec S128x1536 1 := andi main_v1 main_v3
  let main_cst_1 : FVec F S_ .f32 := constant S_ .f32 0xFF800000#32
  let main_v5 : FVec F S12x32000 .f32 := broadcastInDim S12x32000 ![] bcast_S_S12x32000 main_cst_1
  let main_v6 : IVec S12x32000 1 := cmpf .ogt main_arg2 main_v5
  let main_cst_2 : FVec F S_ .f32 := constant S_ .f32 0x7F800000#32
  let main_v7 : FVec F S12x32000 .f32 := broadcastInDim S12x32000 ![] bcast_S_S12x32000 main_cst_2
  let main_v8 : IVec S12x32000 1 := cmpf .olt main_arg2 main_v7
  let main_v9 : IVec S12x32000 1 := andi main_v6 main_v8
  let main_cst_3 : FVec F S_ .f32 := constant S_ .f32 0xFF800000#32
  let main_v10 : FVec F S128 .f32 := broadcastInDim S128 ![] bcast_S_S128 main_cst_3
  let main_v11 : IVec S128 1 := cmpf .ogt main_arg4 main_v10
  let main_cst_4 : FVec F S_ .f32 := constant S_ .f32 0x7F800000#32
  let main_v12 : FVec F S128 .f32 := broadcastInDim S128 ![] bcast_S_S128 main_cst_4
  let main_v13 : IVec S128 1 := cmpf .olt main_arg4 main_v12
  let main_v14 : IVec S128 1 := andi main_v11 main_v13
  let main_cst_5 : FVec F S_ .f32 := constant S_ .f32 0xFF800000#32
  let main_v15 : FVec F S128 .f32 := broadcastInDim S128 ![] bcast_S_S128 main_cst_5
  let main_v16 : IVec S128 1 := cmpf .ogt main_arg5 main_v15
  fn_part1 (F := F) main_arg5 main_arg6 main_arg7 main_v4 main_v9 main_v14 main_v16
-- ==== Kernel.lean ====
abbrev S128x1536 : Shape := ⟨2, ![128, 1536]⟩
abbrev S768x32000 : Shape := ⟨2, ![768, 32000]⟩
abbrev S12x32000 : Shape := ⟨2, ![12, 32000]⟩
abbrev S250x64x128 : Shape := ⟨3, ![250, 64, 128]⟩
abbrev S128 : Shape := ⟨1, ![128]⟩
abbrev S128x20 : Shape := ⟨2, ![128, 20]⟩
abbrev S1x128 : Shape := ⟨2, ![1, 128]⟩
abbrev S128x32000 : Shape := ⟨2, ![128, 32000]⟩
abbrev S768x1280 : Shape := ⟨2, ![768, 1280]⟩
abbrev S12x1280 : Shape := ⟨2, ![12, 1280]⟩
abbrev S10x64x128 : Shape := ⟨3, ![10, 64, 128]⟩
abbrev S128x1280 : Shape := ⟨2, ![128, 1280]⟩
abbrev S128x128 : Shape := ⟨2, ![128, 128]⟩
abbrev S128x108 : Shape := ⟨2, ![128, 108]⟩
abbrev S768x256 : Shape := ⟨2, ![768, 256]⟩
abbrev S768x1x256 : Shape := ⟨3, ![768, 1, 256]⟩
abbrev S768x2x256 : Shape := ⟨3, ![768, 2, 256]⟩
abbrev S1536x256 : Shape := ⟨2, ![1536, 256]⟩
abbrev S12x256 : Shape := ⟨2, ![12, 256]⟩
abbrev S12x128x256 : Shape := ⟨3, ![12, 128, 256]⟩
abbrev S12x1x256 : Shape := ⟨3, ![12, 1, 256]⟩
abbrev S128x256 : Shape := ⟨2, ![128, 256]⟩
abbrev S8x128 : Shape := ⟨2, ![8, 128]⟩
abbrev S1x8x128 : Shape := ⟨3, ![1, 8, 128]⟩
abbrev S8x128x1 : Shape := ⟨3, ![8, 128, 1]⟩
abbrev S128x1 : Shape := ⟨2, ![128, 1]⟩

abbrev nBuf : Space → Nat
  | .hbm => 14
  | .vmem => 24
  | .smem => 0
  | _ => 0

abbrev bufTy : (tb : Table) → Fin (tcTables nBuf tb) → BufTy
  | .hbm, ⟨0, _⟩ => ⟨S128x1536, .bf16⟩
  | .hbm, ⟨1, _⟩ => ⟨S768x32000, .i8⟩
  | .hbm, ⟨2, _⟩ => ⟨S12x32000, .f32⟩
  | .hbm, ⟨3, _⟩ => ⟨S250x64x128, .i32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x20, .i32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x32000, .f32⟩
  | .hbm, ⟨12, _⟩ => ⟨S1x128, .f32⟩
  | .hbm, ⟨13, _⟩ => ⟨S128x20, .f32⟩
  | .local _ .vmem, ⟨0, _⟩ => ⟨S128x1536, .bf16⟩
  | .local _ .vmem, ⟨1, _⟩ => ⟨S768x1280, .i8⟩
  | .local _ .vmem, ⟨2, _⟩ => ⟨S768x1280, .i8⟩
  | .local _ .vmem, ⟨3, _⟩ => ⟨S12x1280, .f32⟩
  | .local _ .vmem, ⟨4, _⟩ => ⟨S12x1280, .f32⟩
  | .local _ .vmem, ⟨5, _⟩ => ⟨S10x64x128, .i32⟩
  | .local _ .vmem, ⟨6, _⟩ => ⟨S10x64x128, .i32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x20, .i32⟩
  | .local _ .vmem, ⟨11, _⟩ => ⟨S128x1280, .f32⟩
  | .local _ .vmem, ⟨12, _⟩ => ⟨S128x1280, .f32⟩
  | .local _ .vmem, ⟨13, _⟩ => ⟨S1x128, .f32⟩
  | .local _ .vmem, ⟨14, _⟩ => ⟨S128x20, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .i32⟩
  | .local _ .vmem, ⟨20, _⟩ => ⟨S128x128, .i32⟩
  | .local _ .vmem, ⟨21, _⟩ => ⟨S128x128, .f32⟩
  | .local _ .vmem, ⟨22, _⟩ => ⟨S128x128, .f32⟩
  | .local _ .vmem, ⟨23, _⟩ => ⟨S128x128, .f32⟩
  | _, _ => ⟨S128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v6060 : BitVec 1 := Scalar.cmpi .eq arg0 c24_i32
  let v6061 : BitVec 32 := Scalar.extui v6060
  let c0_i32_2629 : BitVec 32 := 0#32
  let v6062 : BitVec 1 := Scalar.cmpi .ne v6061 c0_i32_2629
  v6062

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x20 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S128x1536 : Shape := ⟨2, ![128, 1536]⟩
abbrev S768x32000 : Shape := ⟨2, ![768, 32000]⟩
abbrev S12x32000 : Shape := ⟨2, ![12, 32000]⟩
abbrev S250x64x128 : Shape := ⟨3, ![250, 64, 128]⟩
abbrev S128 : Shape := ⟨1, ![128]⟩
abbrev S128x20 : Shape := ⟨2, ![128, 20]⟩
abbrev S12x1x32000 : Shape := ⟨3, ![12, 1, 32000]⟩
abbrev S_ : Shape := ⟨0, ![]⟩
abbrev S12x64x32000 : Shape := ⟨3, ![12, 64, 32000]⟩
abbrev S128x768 : Shape := ⟨2, ![128, 768]⟩
abbrev S128x32000 : Shape := ⟨2, ![128, 32000]⟩
abbrev S250x8x1x8x128 : Shape := ⟨5, ![250, 8, 1, 8, 128]⟩
abbrev S250x8x2x8x128 : Shape := ⟨5, ![250, 8, 2, 8, 128]⟩
abbrev S250x128x128 : Shape := ⟨3, ![250, 128, 128]⟩
abbrev S128x250x128 : Shape := ⟨3, ![128, 250, 128]⟩
abbrev S128x1 : Shape := ⟨2, ![128, 1]⟩
abbrev S128x20x1 : Shape := ⟨3, ![128, 20, 1]⟩
abbrev S1 : Shape := ⟨1, ![1]⟩
abbrev S1x1x1 : Shape := ⟨3, ![1, 1, 1]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S128x1536, .bf16⟩
  | 1 => ⟨S768x32000, .i8⟩
  | 2 => ⟨S12x32000, .f32⟩
  | 3 => ⟨S250x64x128, .i32⟩
  | 4 => ⟨S128, .f32⟩
  | 5 => ⟨S128, .f32⟩
  | 6 => ⟨S128, .f32⟩
  | 7 => ⟨S128x20, .i32⟩
  | 8 => ⟨S12x32000, .bf16⟩
  | 9 => ⟨S12x1x32000, .bf16⟩
  | 10 => ⟨S768x32000, .i32⟩
  | 11 => ⟨S_, .i32⟩
  | 12 => ⟨S768x32000, .i32⟩
  | 13 => ⟨S768x32000, .i32⟩
  | 14 => ⟨S_, .i32⟩
  | 15 => ⟨S768x32000, .i32⟩
  | 16 => ⟨S768x32000, .i32⟩
  | 17 => ⟨S768x32000, .i8⟩
  | 18 => ⟨S768x32000, .i32⟩
  | 19 => ⟨S_, .i32⟩
  | 20 => ⟨S768x32000, .i32⟩
  | 21 => ⟨S768x32000, .i1⟩
  | 22 => ⟨S_, .i32⟩
  | 23 => ⟨S768x32000, .i32⟩
  | 24 => ⟨S768x32000, .i32⟩
  | 25 => ⟨S768x32000, .i32⟩
  | 26 => ⟨S768x32000, .bf16⟩
  | 27 => ⟨S12x64x32000, .bf16⟩
  | 28 => ⟨S12x64x32000, .bf16⟩
  | 29 => ⟨S12x64x32000, .bf16⟩
  | 30 => ⟨S768x32000, .bf16⟩
  | 31 => ⟨S_, .i32⟩
  | 32 => ⟨S768x32000, .i32⟩
  | 33 => ⟨S768x32000, .i32⟩
  | 34 => ⟨S_, .i32⟩
  | 35 => ⟨S768x32000, .i32⟩
  | 36 => ⟨S768x32000, .i32⟩
  | 37 => ⟨S768x32000, .i8⟩
  | 38 => ⟨S768x32000, .i32⟩
  | 39 => ⟨S_, .i32⟩
  | 40 => ⟨S768x32000, .i32⟩
  | 41 => ⟨S768x32000, .i1⟩
  | 42 => ⟨S_, .i32⟩
  | 43 => ⟨S768x32000, .i32⟩
  | 44 => ⟨S768x32000, .i32⟩
  | 45 => ⟨S768x32000, .i32⟩
  | 46 => ⟨S768x32000, .bf16⟩
  | 47 => ⟨S12x64x32000, .bf16⟩
  | 48 => ⟨S12x64x32000, .bf16⟩
  | 49 => ⟨S12x64x32000, .bf16⟩
  | 50 => ⟨S768x32000, .bf16⟩
  | 51 => ⟨S128x768, .bf16⟩
  | 52 => ⟨S128x32000, .f32⟩
  | 53 => ⟨S128x768, .bf16⟩
  | 54 => ⟨S128x32000, .f32⟩
  | 55 => ⟨S128x32000, .f32⟩
  | 56 => ⟨S250x8x1x8x128, .i32⟩
  | 57 => ⟨S250x8x2x8x128, .i32⟩
  | 58 => ⟨S250x128x128, .i32⟩
  | 59 => ⟨S128x250x128, .i32⟩
  | 60 => ⟨S128x32000, .i32⟩
  | 61 => ⟨S128x32000, .i32⟩
  | 62 => ⟨S_, .i32⟩
  | 63 => ⟨S128x32000, .i32⟩
  | 64 => ⟨S128x32000, .i32⟩
  | 65 => ⟨S_, .i32⟩
  | 66 => ⟨S128x32000, .i32⟩
  | 67 => ⟨S128x32000, .i32⟩
  | 68 => ⟨S_, .i32⟩
  | 69 => ⟨S128x32000, .i32⟩
  | 70 => ⟨S128x32000, .i32⟩
  | 71 => ⟨S_, .i32⟩
  | 72 => ⟨S128x32000, .i32⟩
  | 73 => ⟨S128x32000, .i32⟩
  | 74 => ⟨S_, .i32⟩
  | 75 => ⟨S128x32000, .i32⟩
  | 76 => ⟨S128x32000, .i32⟩
  | 77 => ⟨S_, .i32⟩
  | 78 => ⟨S128x32000, .i32⟩
  | 79 => ⟨S128x32000, .i1⟩
  | 80 => ⟨S128x32000, .i32⟩
  | 81 => ⟨S128x32000, .f32⟩
  | 82 => ⟨S_, .f32⟩
  | 83 => ⟨S128x32000, .f32⟩
  | 84 => ⟨S128x32000, .i1⟩
  | 85 => ⟨S128x1, .f32⟩
  | 86 => ⟨S_, .f32⟩
  | 87 => ⟨S128x32000, .f32⟩
  | 88 => ⟨S128x32000, .i1⟩
  | 89 => ⟨S128x32000, .f32⟩
  | 90 => ⟨S128x32000, .f32⟩
  | 91 => ⟨S128x32000, .f32⟩
  | 92 => ⟨S128x32000, .f32⟩
  | 93 => ⟨S128x32000, .f32⟩
  | 94 => ⟨S128x32000, .f32⟩
  | 95 => ⟨S128x1, .f32⟩
  | 96 => ⟨S128x32000, .f32⟩
  | 97 => ⟨S128x32000, .f32⟩
  | 98 => ⟨S128x32000, .f32⟩
  | 99 => ⟨S128x32000, .f32⟩
  | 100 => ⟨S128x1, .f32⟩
  | 101 => ⟨S128x32000, .f32⟩
  | 102 => ⟨S128x32000, .f32⟩
  | 103 => ⟨S128x32000, .f32⟩
  | 104 => ⟨S_, .f32⟩
  | 105 => ⟨S128, .f32⟩
  | 106 => ⟨S_, .f32⟩
  | 107 => ⟨S128, .f32⟩
  | 108 => ⟨S128, .i1⟩
  | 109 => ⟨S_, .f32⟩
  | 110 => ⟨S128, .f32⟩
  | 111 => ⟨S128, .i1⟩
  | 112 => ⟨S128, .i1⟩
  | 113 => ⟨S_, .f32⟩
  | 114 => ⟨S_, .f32⟩
  | 115 => ⟨S128, .f32⟩
  | 116 => ⟨S128, .f32⟩
  | 117 => ⟨S128x1, .f32⟩
  | 118 => ⟨S128x32000, .f32⟩
  | 119 => ⟨S128x32000, .f32⟩
  | 120 => ⟨S128x32000, .f32⟩
  | 121 => ⟨S_, .f32⟩
  | 122 => ⟨S128, .f32⟩
  | 123 => ⟨S128, .f32⟩
  | 124 => ⟨S128, .f32⟩
  | 125 => ⟨S_, .i32⟩
  | 126 => ⟨S128x20, .i32⟩
  | 127 => ⟨S128x20, .i1⟩
  | _ => ⟨S128x1536, .bf16⟩

abbrev hbmTy0_1 (i : Nat) : BufTy := match i % 128 with
  | 0 => ⟨S_, .i32⟩
  | 1 => ⟨S128x20, .i32⟩
  | 2 => ⟨S128x20, .i32⟩
  | 3 => ⟨S128x20, .i32⟩
  | 4 => ⟨S128x20x1, .i32⟩
  | 5 => ⟨S1, .i32⟩
  | 6 => ⟨S_, .i32⟩
  | 7 => ⟨S128x20x1, .i32⟩
  | 8 => ⟨S128x20x1, .i1⟩
  | 9 => ⟨S1x1x1, .i32⟩
  | 10 => ⟨S128x20x1, .i32⟩
  | 11 => ⟨S128x20x1, .i1⟩
  | 12 => ⟨S128x20x1, .i1⟩
  | 13 => ⟨S_, .i1⟩
  | 14 => ⟨S128x20, .i1⟩
  | 15 => ⟨S128x20, .f32⟩
  | 16 => ⟨S_, .f32⟩
  | 17 => ⟨S128x20, .f32⟩
  | 18 => ⟨S128x20, .f32⟩
  | 19 => ⟨S128x1, .f32⟩
  | 20 => ⟨S128x20, .f32⟩
  | 21 => ⟨S128x20, .f32⟩
  | 22 => ⟨S1x128, .f32⟩
  | _ => ⟨S128x1536, .bf16⟩

abbrev hbmTy (i : Nat) : BufTy := match i / 128 with
  | 0 => hbmTy0_0 i
  | 1 => hbmTy0_1 i
  | _ => ⟨S128x1536, .bf16⟩

abbrev bufTy : (tb : Table) → Fin (tcTables nBuf tb) → BufTy
  | .hbm, ⟨i, _⟩ => hbmTy i
  | _, _ => ⟨S128x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_call5_v0 : Ref sig .tc := ⟨.hbm, 114, rfl⟩
abbrev main_call5_v1 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_18 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_c_1 : Ref sig .tc := ⟨.hbm, 133, rfl⟩
abbrev main_call6_c_2 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_v11 : Ref sig .tc := ⟨.hbm, 140, rfl⟩
abbrev main_call6_c_3 : Ref sig .tc := ⟨.hbm, 141, rfl⟩
abbrev main_call6_v12 : Ref sig .tc := ⟨.hbm, 142, rfl⟩
abbrev main_call6_v13 : Ref sig .tc := ⟨.hbm, 143, rfl⟩
abbrev main_call6_cst : Ref sig .tc := ⟨.hbm, 144, rfl⟩
abbrev main_call6_v14 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩

abbrev nD : Nat := 1
abbrev τ : Topo := Topo.v7x

variable {F : FTy → Type} [FloatOps F]
-- ==== Proof.Body.lean ====
/- The body of the head kernel, written once as a recursion over the chunks of its tile.

   One grid point multiplies `x` by five blocks of 256 columns of dequantized weights and stores the products; then it
   walks sixteen groups of eight rows, and in each group ten chunks of 128 columns, reading a chunk of products back,
   applying the penalties, storing the chunk and accumulating its maximum, its exponentials and the candidates' values. -/
module

public import proofs.«01_k».proof.Proof.Gen.KernelIdeal.Frame.RunC

@[expose] public section

set_option maxRecDepth 16384

noncomputable section

namespace Cert.KernelIdeal.Body

open Idealize.ShloMosaic Idealize.ShloMosaic.TcCoe Idealize.SL.Sem
open Cert.KernelIdeal.Gen

variable {F : FTy → Type} [FloatOps F]

/-- The rows `8 n … 8 n + 7` of a block of 128 lanes. -/
def rowR (n : ℕ) : Rect S128x128 :=
  Rect.unit (s := S128x128) ![8 * (n % 16), 0] S8x128.size (fun a => by
    have := Nat.mod_lt n (show 16 > 0 by decide)
    fin_cases a <;> simp <;> omega)

/-- The rows of group `n / 10` and the columns of chunk `n % 10` of the tile. -/
def tileR (n : ℕ) : Rect S128x1280 :=
  Rect.unit (s := S128x1280) ![8 * (n / 10 % 16), 128 * (n % 10)] S8x128.size (fun a => by
    have := Nat.mod_lt (n / 10) (show 16 > 0 by decide)
    have := Nat.mod_lt n (show 10 > 0 by decide)
    fin_cases a <;> simp <;> omega)

/-- The eight rows of count words of chunk `n % 10` that row group `n / 10` shares with its neighbour. -/
def wordR (n : ℕ) : Rect S10x64x128 :=
  Rect.unit (s := S10x64x128) ![n % 10, 8 * (n / 20 % 8), 0] S1x8x128.size (fun a => by
    have := Nat.mod_lt (n / 20) (show 8 > 0 by decide)
    have := Nat.mod_lt n (show 10 > 0 by decide)
    fin_cases a <;> simp <;> omega)

/-- The columns `256 n … 256 n + 255` of the tile, of the packed weights and of the scales. -/
def mmR (n : ℕ) : Rect S128x1280 :=
  Rect.unit (s := S128x1280) ![0, 256 * (n % 5)] S128x256.size (fun a => by
    have := Nat.mod_lt n (show 5 > 0 by decide)
    fin_cases a <;> simp <;> omega)
def wR (n : ℕ) : Rect S768x1280 :=
  Rect.unit (s := S768x1280) ![0, 256 * (n % 5)] S768x256.size (fun a => by
    have := Nat.mod_lt n (show 5 > 0 by decide)
    fin_cases a <;> simp <;> omega)
def sR (n : ℕ) : Rect S12x1280 :=
  Rect.unit (s := S12x1280) ![0, 256 * (n % 5)] S12x256.size (fun a => by
    have := Nat.mod_lt n (show 5 > 0 by decide)
    fin_cases a <;> simp <;> omega)

/-- The block of products: `x` times the dequantized weights of 256 columns. -/
def mm (x : Vec F S128x1536 .bf16) (w : Vec F S768x256 .i8) (s : Vec F S12x256 .f32) : FVec F S128x256 .f32 :=
  matmul dot_S128x1536_S1536x256_S128x256_1_0_0_1_n_n none x (k0_pay24 w s) (constant S128x256 .f32 0x00000000#32)

/-- The five stores of products, last first. -/
def prods (x : Vec F S128x1536 .bf16) (w : ℕ → Vec F S768x256 .i8) (s : ℕ → Vec F S12x256 .f32) (n : ℕ) :
    List (View.Piece (Elt F) S128x1280 .f32) :=
  Nat.rec [] (fun k L => ⟨mmR k, mm x (w k) (s k)⟩ :: L) n

/-- What the walk reads besides the products: per row group the penalties, the repetition penalty and its reciprocal,
    the candidates' lanes and chunks; per chunk the count words; and the accumulators, given what was stored so far. -/
structure Rd (F : FTy → Type) where
  p : ℕ → Vec F S8x128 .f32
  f : ℕ → Vec F S8x128 .f32
  r : ℕ → Vec F S8x128 .f32
  ri : ℕ → Vec F S8x128 .f32
  cl : ℕ → Vec F S8x128 .i32
  cc : ℕ → Vec F S8x128 .i32
  cn : ℕ → Vec F S1x8x128 .i32
  z : List (View.Piece (Elt F) S128x1280 .f32) → ℕ → Vec F S8x128 .f32
  m : List (View.Piece (Elt F) S128x128 .f32) → ℕ → Vec F S8x128 .f32
  l : List (View.Piece (Elt F) S128x128 .f32) → ℕ → Vec F S8x128 .f32
  c : List (View.Piece (Elt F) S128x128 .f32) → ℕ → Vec F S8x128 .f32
  step : BitVec 32

/-- A chunk of counts: the low halves of the words for an even row group, the high halves for an odd one. -/
def cnt (even : Bool) (w : Vec F S1x8x128 .i32) : IVec S8x128 32 :=
  cond even (andi (shapeCast S8x128 w shapeCasts_S1x8x128_S8x128) (broadcast S8x128 65535#32))
    (shrui (shapeCast S8x128 w shapeCasts_S1x8x128_S8x128) (broadcast S8x128 16#32))

/-- The penalties applied to a chunk. -/
def epi (even : Bool) (p f r ri z : Vec F S8x128 .f32) (w : Vec F S1x8x128 .i32) : FVec F S8x128 .f32 :=
  select (cmpi .sgt (cnt even w) (broadcast S8x128 0#32))
    (subf (mulf (shapeCast S8x128 z shapeCasts_S8x128_S8x128 : FVec F S8x128 .f32)
        (select (cmpf .ogt (shapeCast S8x128 z shapeCasts_S8x128_S8x128 : FVec F S8x128 .f32)
          (broadcast S8x128 (Scalar.ofBits .f32 0x00000000#32 : F .f32))) ri r))
      (addf (mulf (sitofp .f32 (cnt even w)) f) p))
    (shapeCast S8x128 z shapeCasts_S8x128_S8x128 : FVec F S8x128 .f32)

/-- The candidates of a chunk: their values where the candidate's chunk is this one, the old ones elsewhere. -/
def pick (step : BitVec 32) (ch : ℕ) (cl cc : Vec F S8x128 .i32) (z ca : FVec F S8x128 .f32) : FVec F S8x128 .f32 :=
  select (cmpi .eq cc (broadcast S8x128 (Scalar.addi (Scalar.muli step 10#32) (BitVec.ofNat 32 ch))))
    (dynamicGather 1 z (shapeCast S8x128 (shapeCast S8x128x1
      (select (cmpi .slt cl (broadcast S8x128 0#32)) (addi cl (broadcast S8x128 128#32)) cl : IVec S8x128 32)
      shapeCasts_S8x128_S8x128x1) shapeCasts_S8x128x1_S8x128)) ca

/-- The chunk the walk stores at step `n`, the stores before it being `L`. -/
def chunk (R : Rd F) (n : ℕ) (L : List (View.Piece (Elt F) S128x1280 .f32)) : FVec F S8x128 .f32 :=
  epi (Nat.beq (n / 10 % 2) 0) (R.p (n / 10)) (R.f (n / 10)) (R.r (n / 10)) (R.ri (n / 10)) (R.z L n) (R.cn n)

/-- The stores into the tile up to step `n` of the walk, last first, `L` being those of the products. -/
def zs (R : Rd F) (L : List (View.Piece (Elt F) S128x1280 .f32)) (n : ℕ) : List (View.Piece (Elt F) S128x1280 .f32) :=
  Nat.rec L (fun k L => ⟨tileR k, chunk R k L⟩ :: L) n

/-- The chunk of step `n`. -/
def zv (R : Rd F) (L : List (View.Piece (Elt F) S128x1280 .f32)) (n : ℕ) : FVec F S8x128 .f32 := chunk R n (zs R L n)

/-- The running maximum of row group `g` over its first `k` chunks, from `m`. -/
def mx (z : ℕ → FVec F S8x128 .f32) (g : ℕ) (m : FVec F S8x128 .f32) (k : ℕ) : FVec F S8x128 .f32 :=
  Nat.rec m (fun j m => maximumf m (z (10 * g + j))) k

/-- The running sum of exponentials, from `l`. -/
def sm (z : ℕ → FVec F S8x128 .f32) (g : ℕ) (m l : FVec F S8x128 .f32) (k : ℕ) : FVec F S8x128 .f32 :=
  Nat.rec l (fun j l => addf l (exp (subf (z (10 * g + j)) m))) k

/-- The running candidates' values, from `c`. -/
def pk (R : Rd F) (z : ℕ → FVec F S8x128 .f32) (g : ℕ) (c : FVec F S8x128 .f32) (k : ℕ) : FVec F S8x128 .f32 :=
  Nat.rec c (fun j c => pick R.step j (R.cl g) (R.cc g) (z (10 * g + j)) c) k

/-- The stores into the maximum's block over the first `n` row groups. -/
def ms (R : Rd F) (z : ℕ → FVec F S8x128 .f32) (L : List (View.Piece (Elt F) S128x128 .f32)) (n : ℕ) :
    List (View.Piece (Elt F) S128x128 .f32) :=
  Nat.rec L (fun g L => ⟨rowR g, shapeCast S8x128 (mx z g (R.m L g) 10) shapeCasts_S8x128_S8x128⟩ :: L) n

/-- The stores into the sum's block. -/
def ls (R : Rd F) (z : ℕ → FVec F S8x128 .f32) (Lm L : List (View.Piece (Elt F) S128x128 .f32)) (n : ℕ) :
    List (View.Piece (Elt F) S128x128 .f32) :=
  Nat.rec L (fun g L => ⟨rowR g, shapeCast S8x128 (sm z g (mx z g (R.m (ms R z Lm g) g) 10)
    (mulf (R.l L g) (exp (subf (R.m (ms R z Lm g) g) (mx z g (R.m (ms R z Lm g) g) 10)))) 10) shapeCasts_S8x128_S8x128⟩ :: L) n

/-- The stores into the candidates' block. -/
def cs (R : Rd F) (z : ℕ → FVec F S8x128 .f32) (L : List (View.Piece (Elt F) S128x128 .f32)) (n : ℕ) :
    List (View.Piece (Elt F) S128x128 .f32) :=
  Nat.rec L (fun g L => ⟨rowR g, shapeCast S8x128 (pk R z g (R.c L g) 10) shapeCasts_S8x128_S8x128⟩ :: L) n

section Cases

variable (c : Dev nD) (i : grid0.Coords)
  (arg1 : Memref sig .tc .vmem S128x1536 .bf16) (harg1 : arg1.IsWhole) (arg2 : Memref sig .tc .vmem S768x1280 .i8) (harg2 : arg2.IsWhole)
  (arg3 : Memref sig .tc .vmem S12x1280 .f32) (harg3 : arg3.IsWhole) (arg4 : Memref sig .tc .vmem S10x64x128 .i32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S128x20 .i32) (harg8 : arg8.IsWhole)
  (arg9 : Memref sig .tc .vmem S128x1280 .f32) (harg9 : arg9.IsWhole) (arg10 : Memref sig .tc .vmem S1x128 .f32) (harg10 : arg10.IsWhole)
  (arg11 : Memref sig .tc .vmem S128x20 .f32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (arg15 : Memref sig .tc .vmem S128x128 .f32) (harg15 : arg15.IsWhole)
  (arg16 : Memref sig .tc .vmem S128x128 .i32) (harg16 : arg16.IsWhole) (arg17 : Memref sig .tc .vmem S128x128 .i32) (harg17 : arg17.IsWhole)
  (arg18 : Memref sig .tc .vmem S128x128 .f32) (harg18 : arg18.IsWhole) (arg19 : Memref sig .tc .vmem S128x128 .f32) (harg19 : arg19.IsWhole)
  (arg20 : Memref sig .tc .vmem S128x128 .f32) (harg20 : arg20.IsWhole)
  (x0 : Vec F S128x1536 .bf16) (x1 : Vec F S768x1280 .i8) (x2 : Vec F S12x1280 .f32) (x3 : Vec F S10x64x128 .i32)
  (x4 : Vec F S1x128 .f32) (x5 : Vec F S1x128 .f32) (x6 : Vec F S1x128 .f32) (x7 : Vec F S128x20 .i32)
  (xs0 : Vec F S128x128 .f32) (xs1 : Vec F S128x128 .f32) (xs2 : Vec F S128x128 .f32) (xs3 : Vec F S128x128 .f32)
  (xs4 : Vec F S128x128 .i32) (xs5 : Vec F S128x128 .i32) (xs6 : Vec F S128x128 .f32) (xs7 : Vec F S128x128 .f32) (xs8 : Vec F S128x128 .f32)

/-- The five stores of products of a grid point. -/
def prodL : List (View.Piece (Elt F) S128x1280 .f32) :=
  prods (arg1.view.readAt (Elt F) (Rect.unit (s := S128x1536) ![0, 0] S128x1536.size inb_S128x1536_S128x1536_0_0).toLoadRect (harg1.unread x0))
    (fun k => arg2.view.readAt (Elt F) (wR k).toLoadRect (harg2.unread x1))
    (fun k => arg3.view.readAt (Elt F) (sR k).toLoadRect (harg3.unread x2)) 5

/-- The reads of a grid point that finds the columns in the scratch buffers. -/
def rdB : Rd F where
  p n := arg12.view.readAt (Elt F) (rowR n).toLoadRect (harg12.unread xs0)
  f n := arg13.view.readAt (Elt F) (rowR n).toLoadRect (harg13.unread xs1)
  r n := arg14.view.readAt (Elt F) (rowR n).toLoadRect (harg14.unread xs2)
  ri n := arg15.view.readAt (Elt F) (rowR n).toLoadRect (harg15.unread xs3)
  cl n := arg16.view.readAt (Elt F) (rowR n).toLoadRect (harg16.unread xs4)
  cc n := arg17.view.readAt (Elt F) (rowR n).toLoadRect (harg17.unread xs5)
  cn n := arg4.view.readAt (Elt F) (wordR n).toLoadRect (harg4.unread x3)
  z L n := arg9.view.readCov L (tileR n).toLoadRect
  m _ n := arg18.view.readAt (Elt F) (rowR n).toLoadRect (harg18.unread xs6)
  l _ n := arg19.view.readAt (Elt F) (rowR n).toLoadRect (harg19.unread xs7)
  c _ n := arg20.view.readAt (Elt F) (rowR n).toLoadRect (harg20.unread xs8)
  step := BitVec.ofNat 32 (i 0).val

end Cases

end Cert.KernelIdeal.Body

end
-- ==== Proof.Walk.lean ====
/- What the stores of a grid point leave: the tile of logits, and the blocks of maxima, sums and candidates, index by index. -/
module

public import proofs.«01_k».proof.Proof.Body
public import Idealize.ShloMosaic.Lib.Pipeline.FrameBody
public import Idealize.ShloMosaic.Lib.ValueIdx

@[expose] public section

set_option maxRecDepth 16384

noncomputable section

namespace Cert.KernelIdeal.Body

open Idealize.ShloMosaic Idealize.ShloMosaic.TcCoe Idealize.SL.Sem
open Idealize.ShloMosaic.ValueIdx
open Cert.KernelIdeal.Gen

variable {F : FTy → Type} [FloatOps F]

/-- The place in its chunk of an index of the tile, and the number of the chunk in the order of the walk. -/
def inTile (j : S128x1280.Idx) : S8x128.Idx :=
  ix2 ⟨(j 0).val % 8, Nat.mod_lt _ (by decide)⟩ ⟨(j 1).val % 128, Nat.mod_lt _ (by decide)⟩
def tileNo (j : S128x1280.Idx) : ℕ := 10 * ((j 0).val / 8) + (j 1).val / 128

/-- The place in its row group of an index of a block of 128 lanes. -/
def inRows (j : S128x128.Idx) : S8x128.Idx := ix2 ⟨(j 0).val % 8, Nat.mod_lt _ (by decide)⟩ (j 1)

/-- The place in its block of products of an index of the tile. -/
def inMm (j : S128x1280.Idx) : S128x256.Idx := ix2 (j 0) ⟨(j 1).val % 256, Nat.mod_lt _ (by decide)⟩

theorem idx2_ext {n0 n1 : ℕ} {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

theorem tileNo_lt (j : S128x1280.Idx) : tileNo j < 160 := by
  have h0 : (j 0).val < 128 := (j 0).isLt
  have h1 : (j 1).val < 1280 := (j 1).isLt
  unfold tileNo; omega

theorem tile_emb (n : ℕ) (hn : n < 160) (y : S8x128.Idx) :
    (((tileR n).emb y 0).val = 8 * (n / 10) + (y 0).val) ∧ (((tileR n).emb y 1).val = 128 * (n % 10) + (y 1).val) := by
  refine ⟨?_, ?_⟩
  · show 8 * (n / 10 % 16) + 1 * (y 0).val = _; omega
  · show 128 * (n % 10) + 1 * (y 1).val = _; omega

theorem tile_self (j : S128x1280.Idx) : (tileR (tileNo j)).emb (inTile j) = j := by
  have h0 : (j 0).val < 128 := (j 0).isLt
  have h1 : (j 1).val < 1280 := (j 1).isLt
  obtain ⟨e0, e1⟩ := tile_emb (tileNo j) (tileNo_lt j) (inTile j)
  refine idx2_ext (e0.trans ?_) (e1.trans ?_)
  · show 8 * ((10 * ((j 0).val / 8) + (j 1).val / 128) / 10) + (j 0).val % 8 = _; omega
  · show 128 * ((10 * ((j 0).val / 8) + (j 1).val / 128) % 10) + (j 1).val % 128 = _; omega

theorem tile_mem {n : ℕ} (hn : n < 160) {j : S128x1280.Idx} (h : j ∈ (tileR n).set) : n = tileNo j := by
  obtain ⟨a0, h0, e0⟩ := (tileR n).mem_set.mp h 0
  obtain ⟨a1, h1, e1⟩ := (tileR n).mem_set.mp h 1
  have h0' : a0 < 8 := h0
  have h1' : a1 < 128 := h1
  have e0' : (j 0).val = 8 * (n / 10 % 16) + 1 * a0 := e0
  have e1' : (j 1).val = 128 * (n % 10) + 1 * a1 := e1
  unfold tileNo; omega

/-- What the stores of the walk leave at an index of the tile: its chunk's store once the walk has passed it, what was
    there before until then. -/
theorem canon_zs (R : Rd F) (L : List (View.Piece (Elt F) S128x1280 .f32)) (n : ℕ) (hn : n ≤ 160) (j : S128x1280.Idx) :
    View.canon (zs R L n) j = if tileNo j < n then zv R L (tileNo j) (inTile j) else View.canon L j := by
  induction n with
  | zero => rfl
  | succ n ih =>
    show View.canon ((⟨tileR n, chunk R n (zs R L n)⟩ : View.Piece (Elt F) S128x1280 .f32) :: zs R L n) j = _
    by_cases h : n = tileNo j
    · subst h
      rw [if_pos (Nat.lt_succ_self _)]
      have e := View.canon_cons_emb (Val := Elt F) (tileR (tileNo j)) (chunk R (tileNo j) (zs R L (tileNo j))) (zs R L (tileNo j)) (inTile j)
      rw [tile_self] at e
      exact e
    · rw [View.canon_cons_of_not_mem (Val := Elt F) ⟨tileR n, chunk R n (zs R L n)⟩ (zs R L n) (fun hm => h (tile_mem (by omega) hm)), ih (by omega)]
      by_cases h' : tileNo j < n
      · rw [if_pos h', if_pos (by omega)]
      · rw [if_neg h', if_neg (by omega)]

/-- So a chunk that the walk has not passed reads the products. -/
theorem canon_zs_tile (R : Rd F) (L : List (View.Piece (Elt F) S128x1280 .f32)) (n : ℕ) (hn : n < 160) (y : S8x128.Idx) :
    View.canon (zs R L n) ((tileR n).emb y) = View.canon L ((tileR n).emb y) := by
  have hy0 : (y 0).val < 8 := (y 0).isLt
  have hy1 : (y 1).val < 128 := (y 1).isLt
  rw [canon_zs R L n (by omega), if_neg]
  obtain ⟨e0, e1⟩ := tile_emb n hn y
  unfold tileNo; rw [e0, e1]; omega

theorem rows_emb (n : ℕ) (hn : n < 16) (y : S8x128.Idx) :
    (((rowR n).emb y 0).val = 8 * n + (y 0).val) ∧ (((rowR n).emb y 1).val = (y 1).val) := by
  refine ⟨?_, ?_⟩
  · show 8 * (n % 16) + 1 * (y 0).val = _; omega
  · show 0 + 1 * (y 1).val = _; omega

theorem rows_self (j : S128x128.Idx) : (rowR ((j 0).val / 8)).emb (inRows j) = j := by
  have h0 : (j 0).val < 128 := (j 0).isLt
  obtain ⟨e0, e1⟩ := rows_emb ((j 0).val / 8) (by omega) (inRows j)
  refine idx2_ext (e0.trans ?_) e1
  show 8 * ((j 0).val / 8) + (j 0).val % 8 = _; omega

theorem rows_mem {n : ℕ} (hn : n < 16) {j : S128x128.Idx} (h : j ∈ (rowR n).set) : n = (j 0).val / 8 := by
  obtain ⟨a0, h0, e0⟩ := (rowR n).mem_set.mp h 0
  have h0' : a0 < 8 := h0
  have e0' : (j 0).val = 8 * (n % 16) + 1 * a0 := e0
  omega

/-- Stores of one row group after the other, last first. -/
def rowsL (f : ℕ → List (View.Piece (Elt F) S128x128 .f32) → FVec F S8x128 .f32) (L : List (View.Piece (Elt F) S128x128 .f32)) (n : ℕ) :
    List (View.Piece (Elt F) S128x128 .f32) :=
  Nat.rec L (fun g L => ⟨rowR g, f g L⟩ :: L) n

/-- What stores of one row group after the other leave in a block of 128 lanes. -/
theorem canon_rows (f : ℕ → List (View.Piece (Elt F) S128x128 .f32) → FVec F S8x128 .f32)
    (L : List (View.Piece (Elt F) S128x128 .f32)) (n : ℕ) (hn : n ≤ 16) (j : S128x128.Idx) :
    View.canon (rowsL f L n) j
      = if (j 0).val / 8 < n then
          f ((j 0).val / 8) (rowsL f L ((j 0).val / 8)) (inRows j)
        else View.canon L j := by
  induction n with
  | zero => rfl
  | succ n ih =>
    by_cases h : n = (j 0).val / 8
    · subst h
      rw [if_pos (Nat.lt_succ_self _)]
      have e := View.canon_cons_emb (Val := Elt F) (rowR ((j 0).val / 8)) (f ((j 0).val / 8) (rowsL f L ((j 0).val / 8))) (rowsL f L ((j 0).val / 8)) (inRows j)
      rw [rows_self] at e
      exact e
    · refine (View.canon_cons_of_not_mem (Val := Elt F) ⟨rowR n, f n (rowsL f L n)⟩ (rowsL f L n) (fun hm => h (rows_mem (by omega) hm))).trans ((ih (by omega)).trans ?_)
      by_cases h' : (j 0).val / 8 < n
      · rw [if_pos h', if_pos (by omega)]
      · rw [if_neg h', if_neg (by omega)]

/-- A row group that is still to come reads what was there before. -/
theorem canon_rows_next (f : ℕ → List (View.Piece (Elt F) S128x128 .f32) → FVec F S8x128 .f32)
    (L : List (View.Piece (Elt F) S128x128 .f32)) (n : ℕ) (hn : n < 16) (y : S8x128.Idx) :
    View.canon (rowsL f L n) ((rowR n).emb y)
      = View.canon L ((rowR n).emb y) := by
  have hy0 : (y 0).val < 8 := (y 0).isLt
  rw [canon_rows f L n (by omega), if_neg]
  rw [(rows_emb n hn y).1]; omega

theorem mm_self (j : S128x1280.Idx) : (mmR ((j 1).val / 256)).emb (inMm j) = j := by
  have h1 : (j 1).val < 1280 := (j 1).isLt
  refine idx2_ext ?_ ?_
  · show 0 + 1 * (j 0).val = _; omega
  · show 256 * ((j 1).val / 256 % 5) + 1 * ((j 1).val % 256) = _; omega

theorem mm_mem {n : ℕ} (hn : n < 5) {j : S128x1280.Idx} (h : j ∈ (mmR n).set) : n = (j 1).val / 256 := by
  obtain ⟨a1, h1, e1⟩ := (mmR n).mem_set.mp h 1
  have h1' : a1 < 256 := h1
  have e1' : (j 1).val = 256 * (n % 5) + 1 * a1 := e1
  omega

/-- What the stores of products leave. -/
theorem canon_prods (x : Vec F S128x1536 .bf16) (w : ℕ → Vec F S768x256 .i8) (s : ℕ → Vec F S12x256 .f32) (n : ℕ) (hn : n ≤ 5)
    (j : S128x1280.Idx) (hj : (j 1).val / 256 < n) :
    View.canon (prods x w s n) j = mm x (w ((j 1).val / 256)) (s ((j 1).val / 256)) (inMm j) := by
  induction n with
  | zero => omega
  | succ n ih =>
    show View.canon ((⟨mmR n, mm x (w n) (s n)⟩ : View.Piece (Elt F) S128x1280 .f32) :: prods x w s n) j = _
    by_cases h : n = (j 1).val / 256
    · subst h
      have e := View.canon_cons_emb (Val := Elt F) (mmR ((j 1).val / 256)) (mm x (w ((j 1).val / 256)) (s ((j 1).val / 256)))
        (prods x w s ((j 1).val / 256)) (inMm j)
      rw [mm_self] at e
      exact e
    · rw [View.canon_cons_of_not_mem (Val := Elt F) ⟨mmR n, mm x (w n) (s n)⟩ (prods x w s n) (fun hm => h (mm_mem (by omega) hm)), ih (by omega) (by omega)]

end Cert.KernelIdeal.Body

end
-- ==== Proof.Point.lean ====
/- One grid point as a function of what it finds: the tile of logits and the three accumulators it leaves. -/
module

public import proofs.«01_k».proof.Proof.Walk
public import Idealize.ShloMosaic.Lib.WholeRead
public import Idealize.ShloMosaic.Lib.Pipeline.Value

@[expose] public section

set_option maxRecDepth 16384

noncomputable section

namespace Cert.KernelIdeal.Body

open Idealize.ShloMosaic Idealize.ShloMosaic.TcCoe Idealize.SL.Sem
open Idealize.ShloMosaic.ValueIdx
open Cert.KernelIdeal.Gen

variable {F : FTy → Type} [FloatOps F]

/-- What a grid point finds: its blocks of `x`, of the weights, the scales and the count words, the six columns, the three
    accumulators, and its number. -/
structure Pt (F : FTy → Type) where
  x : Vec F S128x1536 .bf16
  w : Vec F S768x1280 .i8
  s : Vec F S12x1280 .f32
  cn : Vec F S10x64x128 .i32
  p : Vec F S128x128 .f32
  f : Vec F S128x128 .f32
  r : Vec F S128x128 .f32
  ri : Vec F S128x128 .f32
  cl : Vec F S128x128 .i32
  cc : Vec F S128x128 .i32
  m : Vec F S128x128 .f32
  l : Vec F S128x128 .f32
  c : Vec F S128x128 .f32
  step : BitVec 32

/-- The row group `n` of a block of 128 lanes. -/
def rowsOf {e : EltTy} (v : Vec F S128x128 e) (n : ℕ) : Vec F S8x128 e := fun y => v ((rowR n).emb y)

/-- The reads of a grid point. -/
def Pt.rd (Q : Pt F) : Rd F where
  p := rowsOf Q.p
  f := rowsOf Q.f
  r := rowsOf Q.r
  ri := rowsOf Q.ri
  cl := rowsOf Q.cl
  cc := rowsOf Q.cc
  cn n := fun y => Q.cn ((wordR n).emb y)
  z L n := fun y => View.canon (Val := Elt F) L ((tileR n).emb y)
  m _ := rowsOf Q.m
  l _ := rowsOf Q.l
  c _ := rowsOf Q.c
  step := Q.step

/-- Its stores of products. -/
def Pt.pl (Q : Pt F) : List (View.Piece (Elt F) S128x1280 .f32) :=
  prods Q.x (fun k y => Q.w ((wR k).emb y)) (fun k y => Q.s ((sR k).emb y)) 5

/-- The chunk of logits of step `n` of its walk. -/
def Pt.z (Q : Pt F) (n : ℕ) : FVec F S8x128 .f32 := zv Q.rd Q.pl n

/-- The tile of logits it leaves. -/
def Pt.tile (Q : Pt F) : Vec F S128x1280 .f32 := fun j => Q.z (tileNo j) (inTile j)

/-- The maxima a row group ends with, and the three accumulators the point leaves. -/
def Pt.mx (Q : Pt F) (g : ℕ) : FVec F S8x128 .f32 := Body.mx Q.z g (rowsOf Q.m g) 10
def Pt.m' (Q : Pt F) : Vec F S128x128 .f32 := fun j => Q.mx ((j 0).val / 8) (inRows j)
def Pt.l' (Q : Pt F) : Vec F S128x128 .f32 := fun j =>
  sm Q.z ((j 0).val / 8) (Q.mx ((j 0).val / 8))
    (mulf (rowsOf Q.l ((j 0).val / 8)) (exp (subf (rowsOf Q.m ((j 0).val / 8)) (Q.mx ((j 0).val / 8))))) 10 (inRows j)
def Pt.c' (Q : Pt F) : Vec F S128x128 .f32 := fun j =>
  pk Q.rd Q.z ((j 0).val / 8) (rowsOf Q.c ((j 0).val / 8)) 10 (inRows j)

theorem rowNo_lt (j : S128x128.Idx) : (j 0).val / 8 < 16 := by
  have h0 : (j 0).val < 128 := (j 0).isLt
  omega

/-- The stores leave the tile. -/
theorem canon_tile (Q : Pt F) : View.canon (Val := Elt F) (zs Q.rd Q.pl 160) = Q.tile :=
  funext fun j => (canon_zs Q.rd Q.pl 160 le_rfl j).trans (if_pos (tileNo_lt j))

/-- The stores leave the three accumulators, when every row group reads what the point found in them. -/
theorem canon_ms (Q : Pt F) (R : Rd F) (L : List (View.Piece (Elt F) S128x128 .f32))
    (hm : ∀ g < 16, R.m (ms R Q.z L g) g = rowsOf Q.m g) : View.canon (Val := Elt F) (ms R Q.z L 16) = Q.m' := by
  funext j
  refine (canon_rows (fun g L => shapeCast S8x128 (mx Q.z g (R.m L g) 10) shapeCasts_S8x128_S8x128) L 16 le_rfl j).trans ?_
  rw [if_pos (rowNo_lt j), shapeCast_self]
  have e := hm _ (rowNo_lt j)
  show mx Q.z _ (R.m (ms R Q.z L _) _) 10 _ = _
  rw [e]; rfl

theorem canon_ls (Q : Pt F) (R : Rd F) (Lm L : List (View.Piece (Elt F) S128x128 .f32))
    (hm : ∀ g < 16, R.m (ms R Q.z Lm g) g = rowsOf Q.m g) (hl : ∀ g < 16, R.l (ls R Q.z Lm L g) g = rowsOf Q.l g) :
    View.canon (Val := Elt F) (ls R Q.z Lm L 16) = Q.l' := by
  funext j
  refine (canon_rows (fun g L => shapeCast S8x128 (sm Q.z g (mx Q.z g (R.m (ms R Q.z Lm g) g) 10)
    (mulf (R.l L g) (exp (subf (R.m (ms R Q.z Lm g) g) (mx Q.z g (R.m (ms R Q.z Lm g) g) 10)))) 10) shapeCasts_S8x128_S8x128) L 16 le_rfl j).trans ?_
  rw [if_pos (rowNo_lt j), shapeCast_self, hm _ (rowNo_lt j)]
  have e := hl _ (rowNo_lt j)
  show sm Q.z _ _ (mulf (R.l (ls R Q.z Lm L _) _) _) 10 _ = _
  rw [e]; rfl

theorem canon_cs (Q : Pt F) (R : Rd F) (L : List (View.Piece (Elt F) S128x128 .f32))
    (hcl : R.cl = Q.rd.cl) (hcc : R.cc = Q.rd.cc) (hs : R.step = Q.step)
    (hc : ∀ g < 16, R.c (cs R Q.z L g) g = rowsOf Q.c g) : View.canon (Val := Elt F) (cs R Q.z L 16) = Q.c' := by
  funext j
  refine (canon_rows (fun g L => shapeCast S8x128 (pk R Q.z g (R.c L g) 10) shapeCasts_S8x128_S8x128) L 16 le_rfl j).trans ?_
  rw [if_pos (rowNo_lt j), shapeCast_self]
  have e := hc _ (rowNo_lt j)
  show pk R Q.z _ (R.c (cs R Q.z L _) _) 10 _ = _
  rw [e]
  unfold pk
  rw [hcl, hcc, hs]; rfl

/-- A block stored whole. -/
def one {e : EltTy} (v : Vec F S128x128 e) : List (View.Piece (Elt F) S128x128 e) :=
  [⟨Rect.unit (s := S128x128) ![0, 0] S128x128.size inb_S128x128_S128x128_0_0, v⟩]

theorem whole_emb (y : S128x128.Idx) :
    (Rect.unit (s := S128x128) ![0, 0] S128x128.size inb_S128x128_S128x128_0_0).emb y = y := by
  refine idx2_ext ?_ ?_
  · show 0 + 1 * (y 0).val = _; omega
  · show 0 + 1 * (y 1).val = _; omega

theorem canon_one {e : EltTy} (v : Vec F S128x128 e) : View.canon (Val := Elt F) (one v) = v := by
  funext y
  have e := View.canon_cons_emb (Val := Elt F) (Rect.unit (s := S128x128) ![0, 0] S128x128.size inb_S128x128_S128x128_0_0) v [] y
  rw [whole_emb] at e
  exact e

/-- Reading a row group of a block stored whole, or with only earlier row groups stored over it. -/
theorem read_one {κ sp} {e : EltTy} (v : View sig κ sp S128x128 e) (X : Vec F S128x128 e) (n : ℕ) :
    v.readCov (one X) (rowR n).toLoadRect = rowsOf X n := by
  refine (View.readCov_eq_canon' (Val := Elt F) v (one X) _).trans ?_
  rw [canon_one]; rfl

theorem read_rows {κ sp} (v : View sig κ sp S128x128 .f32) (X : Vec F S128x128 .f32)
    (f : ℕ → List (View.Piece (Elt F) S128x128 .f32) → FVec F S8x128 .f32) (n : ℕ) (hn : n < 16) :
    v.readCov (rowsL f (one X) n) (rowR n).toLoadRect = rowsOf X n := by
  refine (View.readCov_eq_canon' (Val := Elt F) v (rowsL f (one X) n) _).trans ?_
  funext y
  refine (canon_rows_next f (one X) n hn y).trans ?_
  rw [canon_one]; rfl

end Cert.KernelIdeal.Body

end
-- ==== Proof.BridgeB.lean ====
/- The stores of a grid point of case B, which finds the columns in the scratch buffers, are those of the walk. -/
module

public import proofs.«01_k».proof.Proof.Point
public import proofs.«01_k».proof.Proof.Gen.KernelIdeal.Frame

@[expose] public section

set_option maxRecDepth 65536

noncomputable section

namespace Cert.KernelIdeal.Body

open Idealize.ShloMosaic Idealize.ShloMosaic.TcCoe Idealize.SL.Sem
open Cert.KernelIdeal.Gen

variable {F : FTy → Type} [FloatOps F]

variable (c : Dev nD) (i : grid0.Coords)
  (arg1 : Memref sig .tc .vmem S128x1536 .bf16) (harg1 : arg1.IsWhole) (arg2 : Memref sig .tc .vmem S768x1280 .i8) (harg2 : arg2.IsWhole)
  (arg3 : Memref sig .tc .vmem S12x1280 .f32) (harg3 : arg3.IsWhole) (arg4 : Memref sig .tc .vmem S10x64x128 .i32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S128x20 .i32) (harg8 : arg8.IsWhole)
  (arg9 : Memref sig .tc .vmem S128x1280 .f32) (harg9 : arg9.IsWhole) (arg10 : Memref sig .tc .vmem S1x128 .f32) (harg10 : arg10.IsWhole)
  (arg11 : Memref sig .tc .vmem S128x20 .f32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (arg15 : Memref sig .tc .vmem S128x128 .f32) (harg15 : arg15.IsWhole)
  (arg16 : Memref sig .tc .vmem S128x128 .i32) (harg16 : arg16.IsWhole) (arg17 : Memref sig .tc .vmem S128x128 .i32) (harg17 : arg17.IsWhole)
  (arg18 : Memref sig .tc .vmem S128x128 .f32) (harg18 : arg18.IsWhole) (arg19 : Memref sig .tc .vmem S128x128 .f32) (harg19 : arg19.IsWhole)
  (arg20 : Memref sig .tc .vmem S128x128 .f32) (harg20 : arg20.IsWhole)
  (x0 : Vec F S128x1536 .bf16) (x1 : Vec F S768x1280 .i8) (x2 : Vec F S12x1280 .f32) (x3 : Vec F S10x64x128 .i32)
  (x4 : Vec F S1x128 .f32) (x5 : Vec F S1x128 .f32) (x6 : Vec F S1x128 .f32) (x7 : Vec F S128x20 .i32)
  (xs0 : Vec F S128x128 .f32) (xs1 : Vec F S128x128 .f32) (xs2 : Vec F S128x128 .f32) (xs3 : Vec F S128x128 .f32)
  (xs4 : Vec F S128x128 .i32) (xs5 : Vec F S128x128 .i32) (xs6 : Vec F S128x128 .f32) (xs7 : Vec F S128x128 .f32) (xs8 : Vec F S128x128 .f32)

/-- What such a point finds. -/
def ptB : Pt F where
  x := x0
  w := x1
  s := x2
  cn := x3
  p := xs0
  f := xs1
  r := xs2
  ri := xs3
  cl := xs4
  cc := xs5
  m := xs6
  l := xs7
  c := xs8
  step := BitVec.ofNat 32 (i 0).val

/-- Its reads are those of the buffers' contents. -/
theorem rdB_eq : (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8)
      = (ptB i x0 x1 x2 x3 xs0 xs1 xs2 xs3 xs4 xs5 xs6 xs7 xs8).rd := by
  unfold rdB Pt.rd ptB
  congr 1
  · funext n y; exact harg12.readAt_unread xs0 _ y
  · funext n y; exact harg13.readAt_unread xs1 _ y
  · funext n y; exact harg14.readAt_unread xs2 _ y
  · funext n y; exact harg15.readAt_unread xs3 _ y
  · funext n y; exact harg16.readAt_unread xs4 _ y
  · funext n y; exact harg17.readAt_unread xs5 _ y
  · funext n y; exact harg4.readAt_unread x3 _ y
  · funext L n; exact View.readCov_eq_canon' (Val := Elt F) arg9.view L _
  · funext L n y; exact harg18.readAt_unread xs6 _ y
  · funext L n y; exact harg19.readAt_unread xs7 _ y
  · funext L n y; exact harg20.readAt_unread xs8 _ y

/-- So are the products it stores. -/
theorem prodL_eq : (prodL arg1 harg1 arg2 harg2 arg3 harg3 x0 x1 x2)
      = (ptB i x0 x1 x2 x3 xs0 xs1 xs2 xs3 xs4 xs5 xs6 xs7 xs8).pl := by
  have e0 : arg1.view.readAt (Elt F) (Rect.unit (s := S128x1536) ![0, 0] S128x1536.size inb_S128x1536_S128x1536_0_0).toLoadRect (harg1.unread x0) = x0 := by
    funext y
    refine (harg1.readAt_unread x0 _ y).trans (congrArg x0 (idx2_ext ?_ ?_))
    · show 0 + 1 * (y 0).val = _; omega
    · show 0 + 1 * (y 1).val = _; omega
  have e1 : (fun k : ℕ => arg2.view.readAt (Elt F) (wR k).toLoadRect (harg2.unread x1)) = fun k y => x1 ((wR k).emb y) := by
    funext k y; exact harg2.readAt_unread x1 _ y
  have e2 : (fun k : ℕ => arg3.view.readAt (Elt F) (sR k).toLoadRect (harg3.unread x2)) = fun k y => x2 ((sR k).emb y) := by
    funext k y; exact harg3.readAt_unread x2 _ y
  unfold prodL Pt.pl
  rw [e0, e1, e2]; rfl

theorem listB_8 (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).1
      = zs (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2) 160 := by sl_kernel_rfl
theorem listB_m (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.1
      = ms (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16 := by sl_kernel_rfl
theorem listB_l (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.1
      = ls (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] [] 16 := by sl_kernel_rfl
theorem listB_c (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.2.1
      = cs (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16 := by sl_kernel_rfl

theorem outB_8 (hc0 : ¬cond0_0 i) (hc1 : ¬cond0_1 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).tile := by
  unfold out0_B_8
  rw [View.read_writes_junk_eq_canon, listB_8, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_tile _
theorem canonB_m (hc0 : ¬cond0_0 i) (hc1 : ¬cond0_1 i) : View.canon (Val := Elt F) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.1 = (ptB i x0 x1 x2 x3 xs0 xs1 xs2 xs3 xs4 xs5 xs6 xs7 xs8).m' := by
  rw [listB_m, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_ms (ptB i x0 x1 x2 x3 xs0 xs1 xs2 xs3 xs4 xs5 xs6 xs7 xs8) _ [] (fun _ _ => rfl)
theorem outB_m (hc0 : ¬cond0_0 i) (hc1 : ¬cond0_1 i) : sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).m' := by
  unfold sout0_B_6
  rw [View.read_writes_junk_eq_canon, canonB_m]
theorem canonB_l (hc0 : ¬cond0_0 i) (hc1 : ¬cond0_1 i) : View.canon (Val := Elt F) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.1 = (ptB i x0 x1 x2 x3 xs0 xs1 xs2 xs3 xs4 xs5 xs6 xs7 xs8).l' := by
  rw [listB_l, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_ls (ptB i x0 x1 x2 x3 xs0 xs1 xs2 xs3 xs4 xs5 xs6 xs7 xs8) _ [] [] (fun _ _ => rfl) (fun _ _ => rfl)
theorem outB_l (hc0 : ¬cond0_0 i) (hc1 : ¬cond0_1 i) : sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).l' := by
  unfold sout0_B_7
  rw [View.read_writes_junk_eq_canon, canonB_l]
theorem canonB_c (hc0 : ¬cond0_0 i) (hc1 : ¬cond0_1 i) : View.canon (Val := Elt F) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.2.1 = (ptB i x0 x1 x2 x3 xs0 xs1 xs2 xs3 xs4 xs5 xs6 xs7 xs8).c' := by
  rw [listB_c, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_cs (ptB i x0 x1 x2 x3 xs0 xs1 xs2 xs3 xs4 xs5 xs6 xs7 xs8) _ [] rfl rfl rfl (fun _ _ => rfl)
theorem outB_c (hc0 : ¬cond0_0 i) (hc1 : ¬cond0_1 i) : sout0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).c' := by
  unfold sout0_B_8
  rw [View.read_writes_junk_eq_canon, canonB_c]

end Cert.KernelIdeal.Body

end
-- ==== Proof.BridgeA.lean ====
/- The stores of the first grid point, which fills the scratch buffers first, are those of the walk. -/
module

public import proofs.«01_k».proof.Proof.BridgeB
public import proofs.«01_k».proof.Proof.Gen.KernelIdeal.Frame

@[expose] public section

set_option maxRecDepth 65536

noncomputable section

namespace Cert.KernelIdeal.Body

open Idealize.ShloMosaic Idealize.ShloMosaic.TcCoe Idealize.SL.Sem
open Cert.KernelIdeal.Gen

variable {F : FTy → Type} [FloatOps F]

variable (c : Dev nD) (i : grid0.Coords)
  (arg1 : Memref sig .tc .vmem S128x1536 .bf16) (harg1 : arg1.IsWhole) (arg2 : Memref sig .tc .vmem S768x1280 .i8) (harg2 : arg2.IsWhole)
  (arg3 : Memref sig .tc .vmem S12x1280 .f32) (harg3 : arg3.IsWhole) (arg4 : Memref sig .tc .vmem S10x64x128 .i32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S128x20 .i32) (harg8 : arg8.IsWhole)
  (arg9 : Memref sig .tc .vmem S128x1280 .f32) (harg9 : arg9.IsWhole) (arg10 : Memref sig .tc .vmem S1x128 .f32) (harg10 : arg10.IsWhole)
  (arg11 : Memref sig .tc .vmem S128x20 .f32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (arg15 : Memref sig .tc .vmem S128x128 .f32) (harg15 : arg15.IsWhole)
  (arg16 : Memref sig .tc .vmem S128x128 .i32) (harg16 : arg16.IsWhole) (arg17 : Memref sig .tc .vmem S128x128 .i32) (harg17 : arg17.IsWhole)
  (arg18 : Memref sig .tc .vmem S128x128 .f32) (harg18 : arg18.IsWhole) (arg19 : Memref sig .tc .vmem S128x128 .f32) (harg19 : arg19.IsWhole)
  (arg20 : Memref sig .tc .vmem S128x128 .f32) (harg20 : arg20.IsWhole)
  (x0 : Vec F S128x1536 .bf16) (x1 : Vec F S768x1280 .i8) (x2 : Vec F S12x1280 .f32) (x3 : Vec F S10x64x128 .i32)
  (x4 : Vec F S1x128 .f32) (x5 : Vec F S1x128 .f32) (x6 : Vec F S1x128 .f32) (x7 : Vec F S128x20 .i32)

/-- What such a point finds, its own first stores included. -/
def ptA : Pt F where
  x := x0
  w := x1
  s := x2
  cn := x3
  p := k0_pay6 x4
  f := k0_pay7 x5
  r := k0_pay9 x6
  ri := k0_pay10 x6
  cl := k0_pay13 (k0_pay12 x7)
  cc := k0_pay14 (k0_pay11 x7)
  m := k0_pay15
  l := k0_pay16
  c := k0_pay17
  step := BitVec.ofNat 32 (i 0).val

/-- Its reads, from the blocks it stored. -/
def rdA : Rd F where
  p n := arg12.view.readCov (one (k0_pay6 (arg5.view.readAt (Elt F) (Rect.unit (s := S1x128) ![0, 0] S1x128.size inb_S1x128_S1x128_0_0).toLoadRect (harg5.unread x4)))) (rowR n).toLoadRect
  f n := arg13.view.readCov (one (k0_pay7 (arg6.view.readAt (Elt F) (Rect.unit (s := S1x128) ![0, 0] S1x128.size inb_S1x128_S1x128_0_0).toLoadRect (harg6.unread x5)))) (rowR n).toLoadRect
  r n := arg14.view.readCov (one (k0_pay9 (arg7.view.readAt (Elt F) (Rect.unit (s := S1x128) ![0, 0] S1x128.size inb_S1x128_S1x128_0_0).toLoadRect (harg7.unread x6)))) (rowR n).toLoadRect
  ri n := arg15.view.readCov (one (k0_pay10 (arg7.view.readAt (Elt F) (Rect.unit (s := S1x128) ![0, 0] S1x128.size inb_S1x128_S1x128_0_0).toLoadRect (harg7.unread x6)))) (rowR n).toLoadRect
  cl n := arg16.view.readCov (one (k0_pay13 (k0_pay12 (arg8.view.readAt (Elt F) (Rect.unit (s := S128x20) ![0, 0] S128x20.size inb_S128x20_S128x20_0_0).toLoadRect (harg8.unread x7))) : Vec F S128x128 .i32)) (rowR n).toLoadRect
  cc n := arg17.view.readCov (one (k0_pay14 (k0_pay11 (arg8.view.readAt (Elt F) (Rect.unit (s := S128x20) ![0, 0] S128x20.size inb_S128x20_S128x20_0_0).toLoadRect (harg8.unread x7))) : Vec F S128x128 .i32)) (rowR n).toLoadRect
  cn n := arg4.view.readAt (Elt F) (wordR n).toLoadRect (harg4.unread x3)
  z L n := arg9.view.readCov L (tileR n).toLoadRect
  m L n := arg18.view.readCov L (rowR n).toLoadRect
  l L n := arg19.view.readCov L (rowR n).toLoadRect
  c L n := arg20.view.readCov L (rowR n).toLoadRect
  step := BitVec.ofNat 32 (i 0).val

theorem whole_row (v : Vec F S1x128 .f32) {a : Memref sig .tc .vmem S1x128 .f32} (h : a.IsWhole) :
    a.view.readAt (Elt F) (Rect.unit (s := S1x128) ![0, 0] S1x128.size inb_S1x128_S1x128_0_0).toLoadRect (h.unread v) = v := by
  funext y
  refine (h.readAt_unread v _ y).trans (congrArg v (idx2_ext ?_ ?_))
  · show 0 + 1 * (y 0).val = _; omega
  · show 0 + 1 * (y 1).val = _; omega

theorem whole_cand (v : Vec F S128x20 .i32) {a : Memref sig .tc .vmem S128x20 .i32} (h : a.IsWhole) :
    a.view.readAt (Elt F) (Rect.unit (s := S128x20) ![0, 0] S128x20.size inb_S128x20_S128x20_0_0).toLoadRect (h.unread v) = v := by
  funext y
  refine (h.readAt_unread v _ y).trans (congrArg v (idx2_ext ?_ ?_))
  · show 0 + 1 * (y 0).val = _; omega
  · show 0 + 1 * (y 1).val = _; omega

/-- Its reads are those of the buffers' contents, but for the accumulators, which it reads among its stores. -/
theorem rdA_eq : (rdA i arg4 harg4 arg5 harg5 arg6 harg6 arg7 harg7 arg8 harg8 arg9 arg12 arg13 arg14 arg15 arg16 arg17 arg18 arg19 arg20 x3 x4 x5 x6 x7)
      = { (ptA i x0 x1 x2 x3 x4 x5 x6 x7).rd with
          m := fun L n => arg18.view.readCov L (rowR n).toLoadRect
          l := fun L n => arg19.view.readCov L (rowR n).toLoadRect
          c := fun L n => arg20.view.readCov L (rowR n).toLoadRect } := by
  unfold rdA Pt.rd ptA
  rw [whole_row, whole_row, whole_row, whole_cand]
  congr 1
  · funext n; exact read_one _ _ n
  · funext n; exact read_one _ _ n
  · funext n; exact read_one _ _ n
  · funext n; exact read_one _ _ n
  · funext n; exact read_one _ _ n
  · funext n; exact read_one _ _ n
  · funext n y; exact harg4.readAt_unread x3 _ y
  · funext L n; exact View.readCov_eq_canon' (Val := Elt F) arg9.view L _

theorem zs_rdA (L : List (View.Piece (Elt F) S128x1280 .f32)) (n : ℕ) : zs (rdA i arg4 harg4 arg5 harg5 arg6 harg6 arg7 harg7 arg8 harg8 arg9 arg12 arg13 arg14 arg15 arg16 arg17 arg18 arg19 arg20 x3 x4 x5 x6 x7) L n = zs (ptA i x0 x1 x2 x3 x4 x5 x6 x7).rd L n := by
  rw [rdA_eq (x0 := x0) (x1 := x1) (x2 := x2)]; rfl
theorem zv_rdA (L : List (View.Piece (Elt F) S128x1280 .f32)) : zv (rdA i arg4 harg4 arg5 harg5 arg6 harg6 arg7 harg7 arg8 harg8 arg9 arg12 arg13 arg14 arg15 arg16 arg17 arg18 arg19 arg20 x3 x4 x5 x6 x7) L = zv (ptA i x0 x1 x2 x3 x4 x5 x6 x7).rd L := by
  rw [rdA_eq (x0 := x0) (x1 := x1) (x2 := x2)]; rfl

theorem prodA_eq : (prodL arg1 harg1 arg2 harg2 arg3 harg3 x0 x1 x2) = (ptA i x0 x1 x2 x3 x4 x5 x6 x7).pl :=
  prodL_eq i arg1 harg1 arg2 harg2 arg3 harg3 x0 x1 x2 x3 (ptA i x0 x1 x2 x3 x4 x5 x6 x7).p (ptA i x0 x1 x2 x3 x4 x5 x6 x7).f (ptA i x0 x1 x2 x3 x4 x5 x6 x7).r (ptA i x0 x1 x2 x3 x4 x5 x6 x7).ri (ptA i x0 x1 x2 x3 x4 x5 x6 x7).cl (ptA i x0 x1 x2 x3 x4 x5 x6 x7).cc (ptA i x0 x1 x2 x3 x4 x5 x6 x7).m (ptA i x0 x1 x2 x3 x4 x5 x6 x7).l (ptA i x0 x1 x2 x3 x4 x5 x6 x7).c

theorem listA_8 (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).1
      = zs (rdA i arg4 harg4 arg5 harg5 arg6 harg6 arg7 harg7 arg8 harg8 arg9 arg12 arg13 arg14 arg15 arg16 arg17 arg18 arg19 arg20 x3 x4 x5 x6 x7) (prodL arg1 harg1 arg2 harg2 arg3 harg3 x0 x1 x2) 160 := by sl_kernel_rfl
theorem listA_m (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.2.2.2.2.1
      = ms (rdA i arg4 harg4 arg5 harg5 arg6 harg6 arg7 harg7 arg8 harg8 arg9 arg12 arg13 arg14 arg15 arg16 arg17 arg18 arg19 arg20 x3 x4 x5 x6 x7) (zv (rdA i arg4 harg4 arg5 harg5 arg6 harg6 arg7 harg7 arg8 harg8 arg9 arg12 arg13 arg14 arg15 arg16 arg17 arg18 arg19 arg20 x3 x4 x5 x6 x7) (prodL arg1 harg1 arg2 harg2 arg3 harg3 x0 x1 x2)) (one k0_pay15) 16 := by sl_kernel_rfl
theorem listA_l (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.2.2.2.2.2.1
      = ls (rdA i arg4 harg4 arg5 harg5 arg6 harg6 arg7 harg7 arg8 harg8 arg9 arg12 arg13 arg14 arg15 arg16 arg17 arg18 arg19 arg20 x3 x4 x5 x6 x7) (zv (rdA i arg4 harg4 arg5 harg5 arg6 harg6 arg7 harg7 arg8 harg8 arg9 arg12 arg13 arg14 arg15 arg16 arg17 arg18 arg19 arg20 x3 x4 x5 x6 x7) (prodL arg1 harg1 arg2 harg2 arg3 harg3 x0 x1 x2)) (one k0_pay15) (one k0_pay16) 16 := by sl_kernel_rfl
theorem listA_c (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.2.2.2.2.2.2.1
      = cs (rdA i arg4 harg4 arg5 harg5 arg6 harg6 arg7 harg7 arg8 harg8 arg9 arg12 arg13 arg14 arg15 arg16 arg17 arg18 arg19 arg20 x3 x4 x5 x6 x7) (zv (rdA i arg4 harg4 arg5 harg5 arg6 harg6 arg7 harg7 arg8 harg8 arg9 arg12 arg13 arg14 arg15 arg16 arg17 arg18 arg19 arg20 x3 x4 x5 x6 x7) (prodL arg1 harg1 arg2 harg2 arg3 harg3 x0 x1 x2)) (one k0_pay17) 16 := by sl_kernel_rfl

theorem outA_8 (hc0 : cond0_0 i) (hc1 : ¬cond0_1 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).tile := by
  unfold out0_A_8
  rw [View.read_writes_junk_eq_canon, listA_8, zs_rdA (x0 := x0) (x1 := x1) (x2 := x2), prodA_eq (i := i) (x3 := x3) (x4 := x4) (x5 := x5) (x6 := x6) (x7 := x7)]
  exact canon_tile _
theorem outA_m (hc0 : cond0_0 i) (hc1 : ¬cond0_1 i) : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).m' := by
  unfold sout0_A_6
  rw [View.read_writes_junk_eq_canon, listA_m, zv_rdA (x0 := x0) (x1 := x1) (x2 := x2), prodA_eq (i := i) (x3 := x3) (x4 := x4) (x5 := x5) (x6 := x6) (x7 := x7)]
  exact canon_ms (ptA i x0 x1 x2 x3 x4 x5 x6 x7) (rdA i arg4 harg4 arg5 harg5 arg6 harg6 arg7 harg7 arg8 harg8 arg9 arg12 arg13 arg14 arg15 arg16 arg17 arg18 arg19 arg20 x3 x4 x5 x6 x7) _ (fun g hg => read_rows arg18.view k0_pay15 _ g hg)
theorem outA_l (hc0 : cond0_0 i) (hc1 : ¬cond0_1 i) : sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).l' := by
  unfold sout0_A_7
  rw [View.read_writes_junk_eq_canon, listA_l, zv_rdA (x0 := x0) (x1 := x1) (x2 := x2), prodA_eq (i := i) (x3 := x3) (x4 := x4) (x5 := x5) (x6 := x6) (x7 := x7)]
  exact canon_ls (ptA i x0 x1 x2 x3 x4 x5 x6 x7) (rdA i arg4 harg4 arg5 harg5 arg6 harg6 arg7 harg7 arg8 harg8 arg9 arg12 arg13 arg14 arg15 arg16 arg17 arg18 arg19 arg20 x3 x4 x5 x6 x7) _ _ (fun g hg => read_rows arg18.view k0_pay15 _ g hg) (fun g hg => read_rows arg19.view k0_pay16 _ g hg)
theorem outA_c (hc0 : cond0_0 i) (hc1 : ¬cond0_1 i) : sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).c' := by
  unfold sout0_A_8
  rw [View.read_writes_junk_eq_canon, listA_c, zv_rdA (x0 := x0) (x1 := x1) (x2 := x2), prodA_eq (i := i) (x3 := x3) (x4 := x4) (x5 := x5) (x6 := x6) (x7 := x7)]
  refine canon_cs (ptA i x0 x1 x2 x3 x4 x5 x6 x7) (rdA i arg4 harg4 arg5 harg5 arg6 harg6 arg7 harg7 arg8 harg8 arg9 arg12 arg13 arg14 arg15 arg16 arg17 arg18 arg19 arg20 x3 x4 x5 x6 x7) _ ?_ ?_ rfl (fun g hg => read_rows arg20.view k0_pay17 _ g hg)
  · rw [rdA_eq (x0 := x0) (x1 := x1) (x2 := x2)]
  · rw [rdA_eq (x0 := x0) (x1 := x1) (x2 := x2)]
theorem outA_p (hc0 : cond0_0 i) (hc1 : ¬cond0_1 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).p := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.1
      = one (k0_pay6 (arg5.view.readAt (Elt F) (Rect.unit (s := S1x128) ![0, 0] S1x128.size inb_S1x128_S1x128_0_0).toLoadRect (harg5.unread x4))) := by sl_kernel_rfl
  unfold sout0_A_0
  rw [View.read_writes_junk_eq_canon, e, canon_one, whole_row]; rfl
theorem outA_f (hc0 : cond0_0 i) (hc1 : ¬cond0_1 i) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).f := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.1
      = one (k0_pay7 (arg6.view.readAt (Elt F) (Rect.unit (s := S1x128) ![0, 0] S1x128.size inb_S1x128_S1x128_0_0).toLoadRect (harg6.unread x5))) := by sl_kernel_rfl
  unfold sout0_A_1
  rw [View.read_writes_junk_eq_canon, e, canon_one, whole_row]; rfl
theorem outA_r (hc0 : cond0_0 i) (hc1 : ¬cond0_1 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).r := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.1
      = one (k0_pay9 (arg7.view.readAt (Elt F) (Rect.unit (s := S1x128) ![0, 0] S1x128.size inb_S1x128_S1x128_0_0).toLoadRect (harg7.unread x6))) := by sl_kernel_rfl
  unfold sout0_A_2
  rw [View.read_writes_junk_eq_canon, e, canon_one, whole_row]; rfl
theorem outA_ri (hc0 : cond0_0 i) (hc1 : ¬cond0_1 i) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).ri := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.2.1
      = one (k0_pay10 (arg7.view.readAt (Elt F) (Rect.unit (s := S1x128) ![0, 0] S1x128.size inb_S1x128_S1x128_0_0).toLoadRect (harg7.unread x6))) := by sl_kernel_rfl
  unfold sout0_A_3
  rw [View.read_writes_junk_eq_canon, e, canon_one, whole_row]; rfl
theorem outA_cl (hc0 : cond0_0 i) (hc1 : ¬cond0_1 i) : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).cl := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.2.2.1
      = one (k0_pay13 (k0_pay12 (arg8.view.readAt (Elt F) (Rect.unit (s := S128x20) ![0, 0] S128x20.size inb_S128x20_S128x20_0_0).toLoadRect (harg8.unread x7))) : Vec F S128x128 .i32) := by sl_kernel_rfl
  unfold sout0_A_4
  rw [View.read_writes_junk_eq_canon, e, canon_one, whole_cand]; rfl
theorem outA_cc (hc0 : cond0_0 i) (hc1 : ¬cond0_1 i) : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 = (ptA i x0 x1 x2 x3 x4 x5 x6 x7).cc := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7).2.2.2.2.2.2.2.2.1
      = one (k0_pay14 (k0_pay11 (arg8.view.readAt (Elt F) (Rect.unit (s := S128x20) ![0, 0] S128x20.size inb_S128x20_S128x20_0_0).toLoadRect (harg8.unread x7))) : Vec F S128x128 .i32) := by sl_kernel_rfl
  unfold sout0_A_5
  rw [View.read_writes_junk_eq_canon, e, canon_one, whole_cand]; rfl

end Cert.KernelIdeal.Body

end
-- ==== Proof.BridgeC.lean ====
/- The stores of a grid point of case C, which finds the columns in the scratch buffers, are those of the walk. -/
module

public import proofs.«01_k».proof.Proof.BridgeB
public import proofs.«01_k».proof.Proof.Gen.KernelIdeal.Frame

@[expose] public section

set_option maxRecDepth 65536

noncomputable section

namespace Cert.KernelIdeal.Body

open Idealize.ShloMosaic Idealize.ShloMosaic.TcCoe Idealize.SL.Sem
open Cert.KernelIdeal.Gen

variable {F : FTy → Type} [FloatOps F]

variable (c : Dev nD) (i : grid0.Coords)
  (arg1 : Memref sig .tc .vmem S128x1536 .bf16) (harg1 : arg1.IsWhole) (arg2 : Memref sig .tc .vmem S768x1280 .i8) (harg2 : arg2.IsWhole)
  (arg3 : Memref sig .tc .vmem S12x1280 .f32) (harg3 : arg3.IsWhole) (arg4 : Memref sig .tc .vmem S10x64x128 .i32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S128x20 .i32) (harg8 : arg8.IsWhole)
  (arg9 : Memref sig .tc .vmem S128x1280 .f32) (harg9 : arg9.IsWhole) (arg10 : Memref sig .tc .vmem S1x128 .f32) (harg10 : arg10.IsWhole)
  (arg11 : Memref sig .tc .vmem S128x20 .f32) (harg11 : arg11.IsWhole)
  (arg12 : Memref sig .tc .vmem S128x128 .f32) (harg12 : arg12.IsWhole) (arg13 : Memref sig .tc .vmem S128x128 .f32) (harg13 : arg13.IsWhole)
  (arg14 : Memref sig .tc .vmem S128x128 .f32) (harg14 : arg14.IsWhole) (arg15 : Memref sig .tc .vmem S128x128 .f32) (harg15 : arg15.IsWhole)
  (arg16 : Memref sig .tc .vmem S128x128 .i32) (harg16 : arg16.IsWhole) (arg17 : Memref sig .tc .vmem S128x128 .i32) (harg17 : arg17.IsWhole)
  (arg18 : Memref sig .tc .vmem S128x128 .f32) (harg18 : arg18.IsWhole) (arg19 : Memref sig .tc .vmem S128x128 .f32) (harg19 : arg19.IsWhole)
  (arg20 : Memref sig .tc .vmem S128x128 .f32) (harg20 : arg20.IsWhole)
  (x0 : Vec F S128x1536 .bf16) (x1 : Vec F S768x1280 .i8) (x2 : Vec F S12x1280 .f32) (x3 : Vec F S10x64x128 .i32)
  (x4 : Vec F S1x128 .f32) (x5 : Vec F S1x128 .f32) (x6 : Vec F S1x128 .f32) (x7 : Vec F S128x20 .i32)
  (xs0 : Vec F S128x128 .f32) (xs1 : Vec F S128x128 .f32) (xs2 : Vec F S128x128 .f32) (xs3 : Vec F S128x128 .f32)
  (xs4 : Vec F S128x128 .i32) (xs5 : Vec F S128x128 .i32) (xs6 : Vec F S128x128 .f32) (xs7 : Vec F S128x128 .f32) (xs8 : Vec F S128x128 .f32)

theorem listC_8 (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).1
      = zs (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2) 160 := by sl_kernel_rfl
theorem listC_m (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.1
      = ms (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16 := by sl_kernel_rfl
theorem listC_l (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.1
      = ls (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] [] 16 := by sl_kernel_rfl
theorem listC_c (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.2.1
      = cs (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16 := by sl_kernel_rfl

theorem outC_8 (hc0 : ¬cond0_0 i) (hc1 : cond0_1 i) : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).tile := by
  unfold out0_C_8
  rw [View.read_writes_junk_eq_canon, listC_8, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_tile _
theorem canonC_m (hc0 : ¬cond0_0 i) (hc1 : cond0_1 i) : View.canon (Val := Elt F) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.1 = (ptB i x0 x1 x2 x3 xs0 xs1 xs2 xs3 xs4 xs5 xs6 xs7 xs8).m' := by
  rw [listC_m, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_ms (ptB i x0 x1 x2 x3 xs0 xs1 xs2 xs3 xs4 xs5 xs6 xs7 xs8) _ [] (fun _ _ => rfl)
theorem outC_m (hc0 : ¬cond0_0 i) (hc1 : cond0_1 i) : sout0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).m' := by
  unfold sout0_C_6
  rw [View.read_writes_junk_eq_canon, canonC_m]
theorem canonC_l (hc0 : ¬cond0_0 i) (hc1 : cond0_1 i) : View.canon (Val := Elt F) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.1 = (ptB i x0 x1 x2 x3 xs0 xs1 xs2 xs3 xs4 xs5 xs6 xs7 xs8).l' := by
  rw [listC_l, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_ls (ptB i x0 x1 x2 x3 xs0 xs1 xs2 xs3 xs4 xs5 xs6 xs7 xs8) _ [] [] (fun _ _ => rfl) (fun _ _ => rfl)
theorem outC_l (hc0 : ¬cond0_0 i) (hc1 : cond0_1 i) : sout0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).l' := by
  unfold sout0_C_7
  rw [View.read_writes_junk_eq_canon, canonC_l]
theorem canonC_c (hc0 : ¬cond0_0 i) (hc1 : cond0_1 i) : View.canon (Val := Elt F) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.2.2.2.2.2.2.2.2.2.1 = (ptB i x0 x1 x2 x3 xs0 xs1 xs2 xs3 xs4 xs5 xs6 xs7 xs8).c' := by
  rw [listC_c, rdB_eq (x0 := x0) (x1 := x1) (x2 := x2), prodL_eq (i := i) (x3 := x3) (xs0 := xs0) (xs1 := xs1) (xs2 := xs2) (xs3 := xs3) (xs4 := xs4) (xs5 := xs5) (xs6 := xs6) (xs7 := xs7) (xs8 := xs8)]
  exact canon_cs (ptB i x0 x1 x2 x3 xs0 xs1 xs2 xs3 xs4 xs5 xs6 xs7 xs8) _ [] rfl rfl rfl (fun _ _ => rfl)
theorem outC_c (hc0 : ¬cond0_0 i) (hc1 : cond0_1 i) : sout0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = (ptB i x0 x1 x2 x3 xs0 xs1 xs2 xs3 xs4 xs5 xs6 xs7 xs8).c' := by
  unfold sout0_C_8
  rw [View.read_writes_junk_eq_canon, canonC_c]

theorem listC_9 (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.1
      = [⟨Rect.unit (s := S1x128) ![0, 0] S1x128.size inb_S1x128_S1x128_0_0, k0_pay5
          (arg18.view.readCov (ms (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16) (Rect.unit (s := S128x128) ![0, 0] S128x128.size inb_S128x128_S128x128_0_0).toLoadRect)
          (arg19.view.readCov (ls (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] [] 16) (Rect.unit (s := S128x128) ![0, 0] S128x128.size inb_S128x128_S128x128_0_0).toLoadRect)⟩] := by sl_kernel_rfl
theorem listC_10 (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8).2.2.1
      = [⟨Rect.unit (s := S128x20) ![0, 0] S128x20.size inb_S128x20_S128x20_0_0, k0_pay4
          (arg18.view.readCov (ms (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16) (Rect.unit (s := S128x128) ![0, 0] S128x128.size inb_S128x128_S128x128_0_0).toLoadRect)
          (arg19.view.readCov (ls (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] [] 16) (Rect.unit (s := S128x128) ![0, 0] S128x128.size inb_S128x128_S128x128_0_0).toLoadRect)
          (arg20.view.readCov (cs (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16) (Rect.unit (s := S128x128) ![0, 0] S128x20.size inb_S128x128_S128x20_0_0).toLoadRect)⟩] := by sl_kernel_rfl

theorem outC_9 (hc0 : ¬cond0_0 i) (hc1 : cond0_1 i) : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8 = k0_pay5 (ptB i x0 x1 x2 x3 xs0 xs1 xs2 xs3 xs4 xs5 xs6 xs7 xs8).m' (ptB i x0 x1 x2 x3 xs0 xs1 xs2 xs3 xs4 xs5 xs6 xs7 xs8).l' := by
  unfold out0_C_9
  have em : arg18.view.readCov (ms (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16) (Rect.unit (s := S128x128) ![0, 0] S128x128.size inb_S128x128_S128x128_0_0).toLoadRect = (ptB i x0 x1 x2 x3 xs0 xs1 xs2 xs3 xs4 xs5 xs6 xs7 xs8).m' := by
    rw [← listC_m c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xs0 xs1 xs2 xs3 xs4 xs5 xs6 xs7 xs8 hc0 hc1]
    refine (View.readCov_eq_canon' (Val := Elt F) _ _ _).trans ?_
    rw [canonC_m]
    funext y; exact congrArg (ptB i x0 x1 x2 x3 xs0 xs1 xs2 xs3 xs4 xs5 xs6 xs7 xs8).m' (whole_emb y)
  have el : arg19.view.readCov (ls (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] [] 16) (Rect.unit (s := S128x128) ![0, 0] S128x128.size inb_S128x128_S128x128_0_0).toLoadRect = (ptB i x0 x1 x2 x3 xs0 xs1 xs2 xs3 xs4 xs5 xs6 xs7 xs8).l' := by
    rw [← listC_l c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xs0 xs1 xs2 xs3 xs4 xs5 xs6 xs7 xs8 hc0 hc1]
    refine (View.readCov_eq_canon' (Val := Elt F) _ _ _).trans ?_
    rw [canonC_l]
    funext y; exact congrArg (ptB i x0 x1 x2 x3 xs0 xs1 xs2 xs3 xs4 xs5 xs6 xs7 xs8).l' (whole_emb y)
  rw [View.read_writes_junk_eq_canon, listC_9, em, el]
  funext y
  have e := View.canon_cons_emb (Val := Elt F) (e := .f32) (Rect.unit (s := S1x128) ![0, 0] S1x128.size inb_S1x128_S1x128_0_0) (k0_pay5 (ptB i x0 x1 x2 x3 xs0 xs1 xs2 xs3 xs4 xs5 xs6 xs7 xs8).m' (ptB i x0 x1 x2 x3 xs0 xs1 xs2 xs3 xs4 xs5 xs6 xs7 xs8).l') [] y
  have ey : (Rect.unit (s := S1x128) ![0, 0] S1x128.size inb_S1x128_S1x128_0_0).emb y = y := by
    refine idx2_ext ?_ ?_
    · show 0 + 1 * (y 0).val = _; omega
    · show 0 + 1 * (y 1).val = _; omega
  rw [ey] at e
  exact e

theorem outC_10 (hc0 : ¬cond0_0 i) (hc1 : cond0_1 i) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 xs0 xs1 xs2 xs3 xs4 xs5 xs6 xs7 xs8
      = k0_pay4 (ptB i x0 x1 x2 x3 xs0 xs1 xs2 xs3 xs4 xs5 xs6 xs7 xs8).m' (ptB i x0 x1 x2 x3 xs0 xs1 xs2 xs3 xs4 xs5 xs6 xs7 xs8).l' (fun y => (ptB i x0 x1 x2 x3 xs0 xs1 xs2 xs3 xs4 xs5 xs6 xs7 xs8).c' ((Rect.unit (s := S128x128) ![0, 0] S128x20.size inb_S128x128_S128x20_0_0).emb y)) := by
  unfold out0_C_10
  have em : arg18.view.readCov (ms (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16) (Rect.unit (s := S128x128) ![0, 0] S128x128.size inb_S128x128_S128x128_0_0).toLoadRect = (ptB i x0 x1 x2 x3 xs0 xs1 xs2 xs3 xs4 xs5 xs6 xs7 xs8).m' := by
    rw [← listC_m c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xs0 xs1 xs2 xs3 xs4 xs5 xs6 xs7 xs8 hc0 hc1]
    refine (View.readCov_eq_canon' (Val := Elt F) _ _ _).trans ?_
    rw [canonC_m]
    funext y; exact congrArg (ptB i x0 x1 x2 x3 xs0 xs1 xs2 xs3 xs4 xs5 xs6 xs7 xs8).m' (whole_emb y)
  have el : arg19.view.readCov (ls (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] [] 16) (Rect.unit (s := S128x128) ![0, 0] S128x128.size inb_S128x128_S128x128_0_0).toLoadRect = (ptB i x0 x1 x2 x3 xs0 xs1 xs2 xs3 xs4 xs5 xs6 xs7 xs8).l' := by
    rw [← listC_l c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xs0 xs1 xs2 xs3 xs4 xs5 xs6 xs7 xs8 hc0 hc1]
    refine (View.readCov_eq_canon' (Val := Elt F) _ _ _).trans ?_
    rw [canonC_l]
    funext y; exact congrArg (ptB i x0 x1 x2 x3 xs0 xs1 xs2 xs3 xs4 xs5 xs6 xs7 xs8).l' (whole_emb y)
  have ec : arg20.view.readCov (cs (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (zv (rdB i arg4 harg4 arg9 arg12 harg12 arg13 harg13 arg14 harg14 arg15 harg15 arg16 harg16 arg17 harg17 arg18 harg18 arg19 harg19
      arg20 harg20 x3 xs0 xs1 xs2 xs3 xs4 xs5 xs6 xs7 xs8) (prodL arg1 harg1 arg2 harg2 arg3 harg3 x0 x1 x2)) [] 16) (Rect.unit (s := S128x128) ![0, 0] S128x20.size inb_S128x128_S128x20_0_0).toLoadRect
      = fun y => (ptB i x0 x1 x2 x3 xs0 xs1 xs2 xs3 xs4 xs5 xs6 xs7 xs8).c' ((Rect.unit (s := S128x128) ![0, 0] S128x20.size inb_S128x128_S128x20_0_0).emb y) := by
    rw [← listC_c c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xs0 xs1 xs2 xs3 xs4 xs5 xs6 xs7 xs8 hc0 hc1]
    refine (View.readCov_eq_canon' (Val := Elt F) _ _ _).trans ?_
    rw [canonC_c]; rfl
  rw [View.read_writes_junk_eq_canon, listC_10, em, el, ec]
  funext y
  have e := View.canon_cons_emb (Val := Elt F) (e := .f32) (Rect.unit (s := S128x20) ![0, 0] S128x20.size inb_S128x20_S128x20_0_0)
    (k0_pay4 (ptB i x0 x1 x2 x3 xs0 xs1 xs2 xs3 xs4 xs5 xs6 xs7 xs8).m' (ptB i x0 x1 x2 x3 xs0 xs1 xs2 xs3 xs4 xs5 xs6 xs7 xs8).l' (fun y => (ptB i x0 x1 x2 x3 xs0 xs1 xs2 xs3 xs4 xs5 xs6 xs7 xs8).c' ((Rect.unit (s := S128x128) ![0, 0] S128x20.size inb_S128x128_S128x20_0_0).emb y))) [] y
  have ey : (Rect.unit (s := S128x20) ![0, 0] S128x20.size inb_S128x20_S128x20_0_0).emb y = y := by
    refine idx2_ext ?_ ?_
    · show 0 + 1 * (y 0).val = _; omega
    · show 0 + 1 * (y 1).val = _; omega
  rw [ey] at e
  exact e

end Cert.KernelIdeal.Body

end
-- ==== Proof.Sweep.lean ====
module

public import proofs.«01_k».proof.Proof.Gen.KernelIdeal.Value
public import proofs.«01_k».proof.Proof.BridgeA
public import proofs.«01_k».proof.Proof.BridgeC

@[expose] public section

set_option maxRecDepth 16384

/-! What every grid point leaves in the tile and in the scratch columns, over what the point before it left. -/

noncomputable section

namespace Cert.KernelIdeal.Body

open Idealize.ShloMosaic Idealize.ShloMosaic.TcCoe Idealize.SL.Sem
open Cert.KernelIdeal.Gen Cert.KernelIdeal.Value

variable {F : FTy → Type} [FloatOps F]
variable (m : (ℓ : Loc nD τ sig) → Buf (Elt F) ℓ) (c : Dev nD)

/-- What a point leaves: the three output blocks and the nine scratch columns. -/
abbrev St (F : FTy → Type) : Type := Vec F S128x1280 .f32 × Vec F S1x128 .f32 × Vec F S128x20 .f32 × Vec F S128x128 .f32 × Vec F S128x128 .f32 × Vec F S128x128 .f32 × Vec F S128x128 .f32 × Vec F S128x128 .i32 × Vec F S128x128 .i32 × Vec F S128x128 .f32 × Vec F S128x128 .f32 × Vec F S128x128 .f32

/-- What the first point computes from: the blocks it reads, and the columns it makes of them. -/
def ptFirst (t : Fin cfg0.N) : Pt F :=
  ptA (grid0.coords t) (iblk m c 0 t) (iblk m c 1 t) (iblk m c 2 t) (iblk m c 3 t) (iblk m c 4 t) (iblk m c 5 t) (iblk m c 6 t) (iblk m c 7 t)

/-- What a later point computes from: the blocks it reads, and the columns left by the point before. -/
def ptNext (t : Fin cfg0.N) (acc : St F) : Pt F :=
  ptB (grid0.coords t) (iblk m c 0 t) (iblk m c 1 t) (iblk m c 2 t) (iblk m c 3 t)
    acc.2.2.2.1 acc.2.2.2.2.1 acc.2.2.2.2.2.1 acc.2.2.2.2.2.2.1 acc.2.2.2.2.2.2.2.1 acc.2.2.2.2.2.2.2.2.1 acc.2.2.2.2.2.2.2.2.2.1 acc.2.2.2.2.2.2.2.2.2.2.1 acc.2.2.2.2.2.2.2.2.2.2.2

/-- The tile and the columns that a point leaves are those of `Q`. -/
structure Leaves (Q : Pt F) (o : St F) : Prop where
  tile : o.1 = Q.tile
  p : o.2.2.2.1 = Q.p
  f : o.2.2.2.2.1 = Q.f
  r : o.2.2.2.2.2.1 = Q.r
  ri : o.2.2.2.2.2.2.1 = Q.ri
  cl : o.2.2.2.2.2.2.2.1 = Q.cl
  cc : o.2.2.2.2.2.2.2.2.1 = Q.cc
  m : o.2.2.2.2.2.2.2.2.2.1 = Q.m'
  l : o.2.2.2.2.2.2.2.2.2.2.1 = Q.l'
  c : o.2.2.2.2.2.2.2.2.2.2.2 = Q.c'

theorem Leaves.of_eq {Q : Pt F} {o : St F} {a0 : Vec F S128x1280 .f32} {a1 : Vec F S1x128 .f32} {a2 : Vec F S128x20 .f32} {a3 : Vec F S128x128 .f32} {a4 : Vec F S128x128 .f32} {a5 : Vec F S128x128 .f32} {a6 : Vec F S128x128 .f32} {a7 : Vec F S128x128 .i32} {a8 : Vec F S128x128 .i32} {a9 : Vec F S128x128 .f32} {a10 : Vec F S128x128 .f32} {a11 : Vec F S128x128 .f32}
    (h : o = (a0, a1, a2, a3, a4, a5, a6, a7, a8, a9, a10, a11))
    (h0 : a0 = Q.tile) (h3 : a3 = Q.p) (h4 : a4 = Q.f) (h5 : a5 = Q.r) (h6 : a6 = Q.ri) (h7 : a7 = Q.cl) (h8 : a8 = Q.cc) (h9 : a9 = Q.m') (h10 : a10 = Q.l') (h11 : a11 = Q.c') : Leaves Q o := by
  subst h
  exact ⟨h0, h3, h4, h5, h6, h7, h8, h9, h10, h11⟩

theorem leaves_A (t : Fin cfg0.N) (acc : St F) (h0 : t.val % 25 = 0) (h1 : ¬t.val % 25 = 24) : Leaves (ptFirst m c t) (stAt0 m c t.val t.isLt acc) := by
  refine Leaves.of_eq (stAt0_A m c t acc h0 h1) ?_ ?_ ?_ ?_ ?_ ?_ ?_ ?_ ?_ ?_
  · exact outA_8 ..
  · exact outA_p ..
  · exact outA_f ..
  · exact outA_r ..
  · exact outA_ri ..
  · exact outA_cl ..
  · exact outA_cc ..
  · exact outA_m ..
  · exact outA_l ..
  · exact outA_c ..

theorem leaves_B (t : Fin cfg0.N) (acc : St F) (h0 : ¬t.val % 25 = 0) (h1 : ¬t.val % 25 = 24) : Leaves (ptNext m c t acc) (stAt0 m c t.val t.isLt acc) := by
  refine Leaves.of_eq (stAt0_B m c t acc h0 h1) ?_ ?_ ?_ ?_ ?_ ?_ ?_ ?_ ?_ ?_
  · exact outB_8 ..
  · rfl
  · rfl
  · rfl
  · rfl
  · rfl
  · rfl
  · exact outB_m ..
  · exact outB_l ..
  · exact outB_c ..

theorem leaves_C (t : Fin cfg0.N) (acc : St F) (h0 : ¬t.val % 25 = 0) (h1 : t.val % 25 = 24) : Leaves (ptNext m c t acc) (stAt0 m c t.val t.isLt acc) := by
  refine Leaves.of_eq (stAt0_C m c t acc h0 h1) ?_ ?_ ?_ ?_ ?_ ?_ ?_ ?_ ?_ ?_
  · exact outC_8 ..
  · rfl
  · rfl
  · rfl
  · rfl
  · rfl
  · rfl
  · exact outC_m ..
  · exact outC_l ..
  · exact outC_c ..

theorem leaves_C_lse (t : Fin cfg0.N) (acc : St F) (h0 : ¬t.val % 25 = 0) (h1 : t.val % 25 = 24) :
    (stAt0 m c t.val t.isLt acc).2.1 = k0_pay5 (ptNext m c t acc).m' (ptNext m c t acc).l' := by
  have h : ∀ {o : St F} {a : Vec F S128x1280 .f32} {b : Vec F S1x128 .f32} {d}, o = (a, b, d) → b = k0_pay5 (ptNext m c t acc).m' (ptNext m c t acc).l' →
      o.2.1 = k0_pay5 (ptNext m c t acc).m' (ptNext m c t acc).l' := by
    intro o a b d e h; rw [e]; exact h
  refine h (stAt0_C m c t acc h0 h1) ?_
  exact outC_9 ..

theorem leaves_C_logp (t : Fin cfg0.N) (acc : St F) (h0 : ¬t.val % 25 = 0) (h1 : t.val % 25 = 24) :
    (stAt0 m c t.val t.isLt acc).2.2.1 = k0_pay4 (ptNext m c t acc).m' (ptNext m c t acc).l'
      (fun y => (ptNext m c t acc).c' ((Rect.unit (s := S128x128) ![0, 0] S128x20.size inb_S128x128_S128x20_0_0).emb y)) := by
  have h : ∀ {o : St F} {a : Vec F S128x1280 .f32} {b : Vec F S1x128 .f32} {d : Vec F S128x20 .f32} {q} {z : Vec F S128x20 .f32},
      o = (a, b, d, q) → d = z → o.2.2.1 = z := by
    intro o a b d q z e h; rw [e]; exact h
  refine h (stAt0_C m c t acc h0 h1) ?_
  exact outC_10 ..

end Cert.KernelIdeal.Body
end
-- ==== Proof.Tile.lean ====
/- The tile of logits a grid point leaves, over the extended reals, at one index. -/
module

public import proofs.«01_k».proof.Proof.Point
public import Idealize.ShloMosaic.Lib.MatmulPlain
public import Idealize.ShloMosaic.PureOps.Ideal.Laws

@[expose] public section

set_option maxRecDepth 16384

noncomputable section

namespace Cert.KernelIdeal.Body

open Idealize.ShloMosaic Idealize.ShloMosaic.TcCoe Idealize.SL.Sem
open Idealize.ShloMosaic.ValueIdx
open Cert.KernelIdeal.Gen

/-- The signed four-bit field `h` (0 the low one, 1 the high one) of a byte, as a 32-bit word. -/
def field (b : BitVec 8) (h : ℕ) : BitVec 32 :=
  IntOp.shrsi .vector (IntOp.shli .vector (b.setWidth 32) (28#32 - 4#32 * BitVec.ofNat 32 h)) 28#32

/-- A dequantized weight: a field times its group's scale. -/
def deq (b : BitVec 8) (h : ℕ) (s : EReal) : EReal := (FloatOps.sitofp (F := Ideal) .bf16 (field b h) : EReal) * s

theorem half_lt (k : Fin 1536) : k.val / 2 < 768 := by omega
theorem group_lt (k : Fin 1536) : k.val / 128 < 12 := by omega

theorem w_apply (w : Vec Ideal S768x256 .i8) (s : Vec Ideal S12x256 .f32) (k : Fin 1536) (v : Fin 256) :
    k0_pay24 w s (ix2 k v) = deq (w (ix2 ⟨k.val / 2, half_lt k⟩ v)) (k.val % 2) (s (ix2 ⟨k.val / 128, group_lt k⟩ v)) := by
  unfold k0_pay24
  refine (shapeCast_apply _ shapeCasts_S12x128x256_S1536x256 (ix2 k v) (ix3 ⟨k.val / 128, group_lt k⟩ ⟨k.val % 128, Nat.mod_lt _ (by decide)⟩ v)
    (by rw [Shape.rowMajor_val_two, Shape.rowMajor_val_three]; show (k.val / 128 * 128 + k.val % 128) * 256 + v.val = k.val * 256 + v.val; omega)).trans ?_
  refine congrArg₂ (fun a b : EReal => a * b) ?_ ?_
  · refine (shapeCast_apply _ shapeCasts_S1536x256_S12x128x256 _ (ix2 k v)
      (by rw [Shape.rowMajor_val_two, Shape.rowMajor_val_three]; show k.val * 256 + v.val = (k.val / 128 * 128 + k.val % 128) * 256 + v.val; omega)).trans ?_
    refine congrArg (FloatOps.sitofp (F := Ideal) .bf16) ?_
    refine (shapeCast_apply _ shapeCasts_S768x2x256_S1536x256 _ (ix3 ⟨k.val / 2, half_lt k⟩ ⟨k.val % 2, Nat.mod_lt _ (by decide)⟩ v)
      (by rw [Shape.rowMajor_val_two, Shape.rowMajor_val_three]; show (k.val / 2 * 2 + k.val % 2) * 256 + v.val = k.val * 256 + v.val; omega)).trans ?_
    refine congrArg₂ (fun a b => IntOp.shrsi .vector (IntOp.shli .vector a (28#32 - 4#32 * b)) 28#32) ?_ ?_
    · refine (broadcastTo_apply _ broadcasts_S768x1x256_S768x2x256 _ (ix3 ⟨k.val / 2, half_lt k⟩ 0 v) (fun a => match a with
        | ⟨0, _⟩ => rfl
        | ⟨1, _⟩ => rfl
        | ⟨2, _⟩ => rfl)).trans ?_
      rw [shapeCast_self]
      exact shapeCast_apply _ shapeCasts_S768x256_S768x1x256 _ (ix2 ⟨k.val / 2, half_lt k⟩ v)
        (by rw [Shape.rowMajor_val_two, Shape.rowMajor_val_three]; show k.val / 2 * 256 + v.val = (k.val / 2 * 1 + 0) * 256 + v.val; omega)
    · show BitVec.ofNat 32 (0 * 2 + k.val % 2) = _
      rw [Nat.zero_mul, Nat.zero_add]
  · refine (broadcastTo_apply _ broadcasts_S12x1x256_S12x128x256 _ (ix3 ⟨k.val / 128, group_lt k⟩ 0 v) (fun a => match a with
        | ⟨0, _⟩ => rfl
        | ⟨1, _⟩ => rfl
        | ⟨2, _⟩ => rfl)).trans ?_
    exact shapeCast_apply _ shapeCasts_S12x256_S12x1x256 _ (ix2 ⟨k.val / 128, group_lt k⟩ v)
        (by rw [Shape.rowMajor_val_two, Shape.rowMajor_val_three]; show k.val / 128 * 256 + v.val = (k.val / 128 * 1 + 0) * 256 + v.val; omega)

theorem mm_apply (x : Vec Ideal S128x1536 .bf16) (w : Vec Ideal S768x256 .i8) (s : Vec Ideal S12x256 .f32) (b : Fin 128) (v : Fin 256) :
    mm x w s (ix2 b v) = ∑ k : Fin 1536, (x (ix2 b k) : EReal)
      * deq (w (ix2 ⟨k.val / 2, half_lt k⟩ v)) (k.val % 2) (s (ix2 ⟨k.val / 128, group_lt k⟩ v)) := by
  have hD : dot_S128x1536_S1536x256_S128x256_1_0_0_1_n_n = DotDims.plain 128 1536 256 := rfl
  unfold mm
  show FloatOps.matmul dot_S128x1536_S1536x256_S128x256_1_0_0_1_n_n none x (k0_pay24 w s) _ (ix2 b v) = _
  rw [hD, Ideal.matmul_plain_apply]
  have h0 : (constant (F := Ideal) S128x256 .f32 0x00000000#32 (ix2 b v) : EReal) = 0 := by
    show Ideal.ofBits .f32 0x00000000#32 = 0
    exact Ideal.ofBits_zero_f32
  rw [h0, zero_add]
  exact Finset.sum_congr rfl fun k _ => congrArg ((x (ix2 b k) : EReal) * ·) (w_apply w s k v)

/-- A count from its word: the low half for an even row group, the high half for an odd one. -/
def count (g : ℕ) (w : BitVec 32) : BitVec 32 :=
  cond (Nat.beq (g % 2) 0) (w &&& 65535#32) (IntOp.shrui .vector w 16#32)

/-- The penalties applied to a product `z`. -/
def pen (c : BitVec 32) (p f r ri z : EReal) : EReal :=
  if 0 < c.toInt then
    z * (if 0 < z then ri else r) - ((FloatOps.sitofp (F := Ideal) .f32 c : EReal) * f + p)
  else z

theorem select_ofBool {α : Type} (P : Prop) [Decidable P] (a b : α) : Scalar.select (BitVec.ofBool (decide P)) a b = if P then a else b := by
  by_cases h : P <;> simp [h, Scalar.select]

theorem cmpf_ogt_zero (z : EReal) : FloatOps.cmpf (F := Ideal) (φ := .f32) .ogt z (0 : EReal) = BitVec.ofBool (decide (0 < z)) := rfl

theorem select_sgt {α : Type} (c : BitVec 32) (a b : α) : Scalar.select (IntOp.cmpi .sgt c 0#32) a b = if 0 < c.toInt then a else b :=
  select_ofBool (0 < c.toInt) a b

theorem epi_apply (g : ℕ) (p f r ri z : Vec Ideal S8x128 .f32) (w : Vec Ideal S1x8x128 .i32) (a : Fin 8) (b : Fin 128) :
    epi (Nat.beq (g % 2) 0) p f r ri z w (ix2 a b)
      = pen (count g (w (ix3 0 a b))) (p (ix2 a b)) (f (ix2 a b)) (r (ix2 a b)) (ri (ix2 a b)) (z (ix2 a b)) := by
  have hc : cnt (F := Ideal) (Nat.beq (g % 2) 0) w (ix2 a b) = count g (w (ix3 0 a b)) := by
    have e : shapeCast S8x128 w shapeCasts_S1x8x128_S8x128 (ix2 a b) = w (ix3 0 a b) :=
      shapeCast_apply _ shapeCasts_S1x8x128_S8x128 _ (ix3 0 a b)
        (by rw [Shape.rowMajor_val_two, Shape.rowMajor_val_three]; show (0 * 8 + a.val) * 128 + b.val = a.val * 128 + b.val; omega)
    unfold cnt count
    rw [← e]
    cases Nat.beq (g % 2) 0 <;> rfl
  unfold epi
  rw [shapeCast_self]
  show Scalar.select (IntOp.cmpi .sgt (cnt (F := Ideal) (Nat.beq (g % 2) 0) w (ix2 a b)) 0#32)
    ((z (ix2 a b) : EReal) * (Scalar.select (FloatOps.cmpf (F := Ideal) (φ := .f32) .ogt (z (ix2 a b)) (Ideal.ofBits .f32 0x00000000#32)) (ri (ix2 a b)) (r (ix2 a b)) : EReal)
      - ((FloatOps.sitofp (F := Ideal) .f32 (cnt (F := Ideal) (Nat.beq (g % 2) 0) w (ix2 a b)) : EReal) * (f (ix2 a b) : EReal) + (p (ix2 a b) : EReal)) : EReal) (z (ix2 a b)) = _
  rw [hc, Ideal.ofBits_zero_f32]
  unfold pen
  rw [cmpf_ogt_zero, select_sgt]
  congr 1
  rw [select_ofBool]

/-- A row group of a block of 128 lanes, at an index. -/
theorem rowsOf_apply {e : EltTy} (v : Vec Ideal S128x128 e) (j : S128x128.Idx) : rowsOf v ((j 0).val / 8) (inRows j) = v j :=
  congrArg v (rows_self j)

/-- The lane of a row of a block of 128 lanes that an index of the tile reads. -/
def lane (j : S128x1280.Idx) : S128x128.Idx := ix2 (j 0) ⟨(j 1).val % 128, Nat.mod_lt _ (by decide)⟩

/-- The count word that an index of the tile reads. -/
theorem word_lt (j : S128x1280.Idx) : (j 1).val / 128 < 10 ∧ 8 * ((j 0).val / 16) + (j 0).val % 8 < 64 := by
  have h0 : (j 0).val < 128 := (j 0).isLt
  have h1 : (j 1).val < 1280 := (j 1).isLt
  omega
def word (j : S128x1280.Idx) : S10x64x128.Idx :=
  ix3 ⟨(j 1).val / 128, (word_lt j).1⟩ ⟨8 * ((j 0).val / 16) + (j 0).val % 8, (word_lt j).2⟩ ⟨(j 1).val % 128, Nat.mod_lt _ (by decide)⟩

/-- The product at an index of the tile. -/
def Pt.raw (Q : Pt Ideal) (j : S128x1280.Idx) : EReal :=
  ∑ k : Fin 1536, (Q.x (ix2 (j 0) k) : EReal) * deq (Q.w (ix2 ⟨k.val / 2, half_lt k⟩ (j 1))) (k.val % 2) (Q.s (ix2 ⟨k.val / 128, group_lt k⟩ (j 1)))

theorem pl_apply (Q : Pt Ideal) (j : S128x1280.Idx) : View.canon (Val := Elt Ideal) Q.pl j = Q.raw j := by
  have h1 : (j 1).val < 1280 := (j 1).isLt
  refine (canon_prods _ _ _ 5 le_rfl j (by omega)).trans ?_
  refine (mm_apply _ _ _ _ _).trans (Finset.sum_congr rfl fun k _ => ?_)
  have ew : (wR ((j 1).val / 256)).emb (ix2 ⟨k.val / 2, half_lt k⟩ ⟨(j 1).val % 256, Nat.mod_lt _ (by decide)⟩) = ix2 ⟨k.val / 2, half_lt k⟩ (j 1) := by
    refine idx2_ext ?_ ?_
    · show 0 + 1 * (k.val / 2) = k.val / 2; omega
    · show 256 * ((j 1).val / 256 % 5) + 1 * ((j 1).val % 256) = (j 1).val; omega
  have es : (sR ((j 1).val / 256)).emb (ix2 ⟨k.val / 128, group_lt k⟩ ⟨(j 1).val % 256, Nat.mod_lt _ (by decide)⟩) = ix2 ⟨k.val / 128, group_lt k⟩ (j 1) := by
    refine idx2_ext ?_ ?_
    · show 0 + 1 * (k.val / 128) = k.val / 128; omega
    · show 256 * ((j 1).val / 256 % 5) + 1 * ((j 1).val % 256) = (j 1).val; omega
  rw [ew, es]
  rfl

/-- The logit at an index of the tile: the product with the penalties of its row applied. -/
theorem tile_apply (Q : Pt Ideal) (j : S128x1280.Idx) :
    Q.tile j = pen (count ((j 0).val / 8) (Q.cn (word j))) (Q.p (lane j)) (Q.f (lane j)) (Q.r (lane j)) (Q.ri (lane j)) (Q.raw j) := by
  have h0 : (j 0).val < 128 := (j 0).isLt
  have h1 : (j 1).val < 1280 := (j 1).isLt
  have eg : tileNo j / 10 = (j 0).val / 8 := by unfold tileNo; omega
  have er : ∀ {e : EltTy} (v : Vec Ideal S128x128 e), rowsOf v ((j 0).val / 8) (inTile j) = v (lane j) := fun v =>
    congrArg v (rows_self (lane j))
  show epi (Nat.beq (tileNo j / 10 % 2) 0) (rowsOf Q.p (tileNo j / 10)) (rowsOf Q.f (tileNo j / 10)) (rowsOf Q.r (tileNo j / 10)) (rowsOf Q.ri (tileNo j / 10))
    (fun y => View.canon (Val := Elt Ideal) (zs Q.rd Q.pl (tileNo j)) ((tileR (tileNo j)).emb y)) (fun y => Q.cn ((wordR (tileNo j)).emb y)) (inTile j) = _
  rw [eg]
  refine (epi_apply _ _ _ _ _ _ _ _ _).trans ?_
  have ew : (wordR (tileNo j)).emb (ix3 0 ⟨(j 0).val % 8, Nat.mod_lt _ (by decide)⟩ ⟨(j 1).val % 128, Nat.mod_lt _ (by decide)⟩) = word j := by
    funext a; apply Fin.ext
    match a with
    | ⟨0, _⟩ => show (10 * ((j 0).val / 8) + (j 1).val / 128) % 10 + 1 * 0 = (j 1).val / 128; omega
    | ⟨1, _⟩ => show 8 * ((10 * ((j 0).val / 8) + (j 1).val / 128) / 20 % 8) + 1 * ((j 0).val % 8) = 8 * ((j 0).val / 16) + (j 0).val % 8; omega
    | ⟨2, _⟩ => show 0 + 1 * ((j 1).val % 128) = (j 1).val % 128; omega
  show pen (count _ (Q.cn ((wordR (tileNo j)).emb _))) (rowsOf Q.p ((j 0).val / 8) (inTile j)) (rowsOf Q.f ((j 0).val / 8) (inTile j))
    (rowsOf Q.r ((j 0).val / 8) (inTile j)) (rowsOf Q.ri ((j 0).val / 8) (inTile j))
    (View.canon (Val := Elt Ideal) (zs Q.rd Q.pl (tileNo j)) ((tileR (tileNo j)).emb (inTile j))) = _
  rw [ew, er, er, er, er, canon_zs_tile _ _ _ (tileNo_lt j), tile_self, pl_apply]

end Cert.KernelIdeal.Body

end
-- ==== Proof.Acc.lean ====
/- The three accumulators a grid point leaves, over the extended reals, at one index, from its tile of logits. -/
module

public import proofs.«01_k».proof.Proof.Tile

@[expose] public section

set_option maxRecDepth 16384

noncomputable section

namespace Cert.KernelIdeal.Body

open Idealize.ShloMosaic Idealize.ShloMosaic.TcCoe Idealize.SL.Sem
open Idealize.ShloMosaic.ValueIdx
open Cert.KernelIdeal.Gen

/-- The index of the tile in chunk `k` at row `b` and lane `t`. -/
def atChunk (b : Fin 128) (k : ℕ) (t : Fin 128) : S128x1280.Idx :=
  ix2 b ⟨(128 * k + t.val) % 1280, Nat.mod_lt _ (by decide)⟩

theorem atChunk_val {b : Fin 128} {k : ℕ} (hk : k < 10) {t : Fin 128} : (atChunk b k t 1).val = 128 * k + t.val := by
  show (128 * k + t.val) % 1280 = _
  have := t.isLt
  omega

/-- A chunk of the walk, at a row and a lane, is the tile there. -/
theorem z_eq (Q : Pt Ideal) (b t : Fin 128) (k : ℕ) (hk : k < 10) :
    Q.z (10 * (b.val / 8) + k) (ix2 ⟨b.val % 8, Nat.mod_lt _ (by decide)⟩ t) = Q.tile (atChunk b k t) := by
  have e1 := atChunk_val (b := b) hk (t := t)
  have hb := b.isLt
  have ht := t.isLt
  have et : tileNo (atChunk b k t) = 10 * (b.val / 8) + k := by
    unfold tileNo; rw [e1]
    show 10 * (b.val / 8) + _ = _
    omega
  have ei : inTile (atChunk b k t) = ix2 ⟨b.val % 8, Nat.mod_lt _ (by decide)⟩ t := by
    refine idx2_ext rfl ?_
    show (atChunk b k t 1).val % 128 = t.val
    rw [e1]; omega
  show _ = Q.z (tileNo (atChunk b k t)) (inTile (atChunk b k t))
  rw [et, ei]

/-- The running maximum of `n` values of a sequence, from `m`. -/
def runMax (m : EReal) (y : ℕ → EReal) (n : ℕ) : EReal := Nat.rec m (fun k m => max m (y k)) n

/-- The running sum of `n` values of a sequence, from `l`. -/
def runSum (l : EReal) (y : ℕ → EReal) (n : ℕ) : EReal := Nat.rec l (fun k l => l + y k) n

/-- The last of `n` values chosen of a sequence, or `c`. -/
def runPick (c : EReal) (p : ℕ → Prop) [DecidablePred p] (y : ℕ → EReal) (n : ℕ) : EReal := Nat.rec c (fun k c => if p k then y k else c) n

theorem runMax_congr {m : EReal} {y y' : ℕ → EReal} {n : ℕ} (h : ∀ k < n, y k = y' k) : runMax m y n = runMax m y' n := by
  induction n with
  | zero => rfl
  | succ n ih =>
    show max (runMax m y n) (y n) = max (runMax m y' n) (y' n)
    rw [ih fun k hk => h k (by omega), h n (by omega)]

theorem runSum_congr {l : EReal} {y y' : ℕ → EReal} {n : ℕ} (h : ∀ k < n, y k = y' k) : runSum l y n = runSum l y' n := by
  induction n with
  | zero => rfl
  | succ n ih =>
    show runSum l y n + y n = runSum l y' n + y' n
    rw [ih fun k hk => h k (by omega), h n (by omega)]

theorem mx_apply (z : ℕ → FVec Ideal S8x128 .f32) (g : ℕ) (m : FVec Ideal S8x128 .f32) (n : ℕ) (y : S8x128.Idx) :
    mx z g m n y = runMax (m y) (fun k => z (10 * g + k) y) n := by
  induction n with
  | zero => rfl
  | succ n ih =>
    show max (mx z g m n y : EReal) (z (10 * g + n) y) = max (runMax (m y) (fun k => z (10 * g + k) y) n) _
    rw [ih]

theorem sm_apply (z : ℕ → FVec Ideal S8x128 .f32) (g : ℕ) (m l : FVec Ideal S8x128 .f32) (n : ℕ) (y : S8x128.Idx) :
    sm z g m l n y = runSum (l y) (fun k => Ideal.exp ((z (10 * g + k) y : EReal) - m y)) n := by
  induction n with
  | zero => rfl
  | succ n ih =>
    show (sm z g m l n y : EReal) + Ideal.exp ((z (10 * g + n) y : EReal) - m y) = runSum (l y) (fun k => Ideal.exp ((z (10 * g + k) y : EReal) - m y)) n + _
    rw [ih]

/-- The maxima the point leaves. -/
theorem m'_apply (Q : Pt Ideal) (b t : Fin 128) :
    Q.m' (ix2 b t) = runMax (Q.m (ix2 b t)) (fun k => Q.tile (atChunk b k t)) 10 := by
  refine (mx_apply Q.z (b.val / 8) (rowsOf Q.m (b.val / 8)) 10 (ix2 ⟨b.val % 8, Nat.mod_lt _ (by decide)⟩ t)).trans ?_
  rw [runMax_congr (fun k hk => z_eq Q b t k hk)]
  exact congrArg (runMax · _ _) (congrArg Q.m (rows_self (ix2 b t)))

/-- The sums the point leaves. -/
theorem l'_apply (Q : Pt Ideal) (b t : Fin 128) :
    Q.l' (ix2 b t) = runSum ((Q.l (ix2 b t) : EReal) * Ideal.exp ((Q.m (ix2 b t) : EReal) - Q.m' (ix2 b t)))
      (fun k => Ideal.exp ((Q.tile (atChunk b k t) : EReal) - Q.m' (ix2 b t))) 10 := by
  refine (sm_apply _ _ _ _ _ _).trans ?_
  have e : ∀ v : Vec Ideal S128x128 .f32, rowsOf v (b.val / 8) (inRows (ix2 b t)) = v (ix2 b t) := fun v => congrArg v (rows_self (ix2 b t))
  show runSum ((rowsOf Q.l (b.val / 8) (inRows (ix2 b t)) : EReal) * Ideal.exp ((rowsOf Q.m (b.val / 8) (inRows (ix2 b t)) : EReal) - Q.m' (ix2 b t))) _ _ = _
  rw [e, e]
  exact runSum_congr fun k hk => congrArg (fun z : EReal => Ideal.exp (z - Q.m' (ix2 b t))) (z_eq Q b t k hk)

/-- The lane that a candidate's word names. -/
def candLane (w : BitVec 32) : Fin 128 :=
  ⟨(if w.toInt < 0 then w + 128#32 else w).toNat % 128, Nat.mod_lt _ (by decide)⟩

theorem pick_apply (step : BitVec 32) (k : ℕ) (cl cc : Vec Ideal S8x128 .i32) (z ca : FVec Ideal S8x128 .f32) (a : Fin 8) (t : Fin 128) :
    pick step k cl cc z ca (ix2 a t)
      = if cc (ix2 a t) = step * 10#32 + BitVec.ofNat 32 k then z (ix2 a (candLane (cl (ix2 a t)))) else ca (ix2 a t) := by
  unfold pick
  have e : ∀ v : IVec S8x128 32, shapeCast S8x128 (shapeCast S8x128x1 v shapeCasts_S8x128_S8x128x1) shapeCasts_S8x128x1_S8x128 = v := by
    intro v; funext y
    refine (shapeCast_apply _ shapeCasts_S8x128x1_S8x128 y (ix3 (y 0) (y 1) 0)
      (by rw [Shape.rowMajor_val_two, Shape.rowMajor_val_three]; show ((y 0).val * 128 + (y 1).val) * 1 + 0 = (y 0).val * 128 + (y 1).val; omega)).trans ?_
    exact shapeCast_apply _ shapeCasts_S8x128_S8x128x1 _ y
      (by rw [Shape.rowMajor_val_two, Shape.rowMajor_val_three]; show (y 0).val * 128 + (y 1).val = ((y 0).val * 128 + (y 1).val) * 1 + 0; omega)
  rw [e]
  have es : select (cmpi .slt cl (broadcast S8x128 0#32)) (addi cl (broadcast S8x128 128#32)) cl (ix2 a t)
      = if (cl (ix2 a t)).toInt < 0 then cl (ix2 a t) + 128#32 else cl (ix2 a t) :=
    select_ofBool ((cl (ix2 a t)).toInt < 0) _ _
  have eg : dynamicGather 1 z (select (cmpi .slt cl (broadcast S8x128 0#32)) (addi cl (broadcast S8x128 128#32)) cl) (ix2 a t)
      = z (ix2 a (candLane (cl (ix2 a t)))) := by
    refine congrArg z (idx2_ext rfl ?_)
    show (select (cmpi .slt cl (broadcast S8x128 0#32)) (addi cl (broadcast S8x128 128#32)) cl (ix2 a t)).toNat % 128 = _
    rw [es]; rfl
  show Scalar.select (IntOp.cmpi .eq (cc (ix2 a t)) (step * 10#32 + BitVec.ofNat 32 k)) _ _ = _
  have ec : IntOp.cmpi .eq (cc (ix2 a t)) (step * 10#32 + BitVec.ofNat 32 k)
      = BitVec.ofBool (decide (cc (ix2 a t) = step * 10#32 + BitVec.ofNat 32 k)) := by
    show BitVec.ofBool ((cc (ix2 a t) : BitVec 32) == step * 10#32 + BitVec.ofNat 32 k) = _
    rw [beq_eq_decide]
  rw [eg, ec]
  exact select_ofBool (cc (ix2 a t) = step * 10#32 + BitVec.ofNat 32 k) _ _

/-- The candidates' values the point leaves. -/
theorem c'_apply (Q : Pt Ideal) (b t : Fin 128) :
    Q.c' (ix2 b t) = runPick (Q.c (ix2 b t)) (fun k => Q.cc (ix2 b t) = Q.step * 10#32 + BitVec.ofNat 32 k)
      (fun k => Q.tile (atChunk b k (candLane (Q.cl (ix2 b t))))) 10 := by
  have e : ∀ {e : EltTy} (v : Vec Ideal S128x128 e), rowsOf v (b.val / 8) (ix2 ⟨b.val % 8, Nat.mod_lt _ (by decide)⟩ t) = v (ix2 b t) :=
    fun v => congrArg v (rows_self (ix2 b t))
  have key : ∀ n ≤ 10, pk Q.rd Q.z (b.val / 8) (rowsOf Q.c (b.val / 8)) n (ix2 ⟨b.val % 8, Nat.mod_lt _ (by decide)⟩ t)
      = runPick (Q.c (ix2 b t)) (fun k => Q.cc (ix2 b t) = Q.step * 10#32 + BitVec.ofNat 32 k)
      (fun k => Q.tile (atChunk b k (candLane (Q.cl (ix2 b t))))) n := by
    intro n hn
    induction n with
    | zero => exact e Q.c
    | succ n ih =>
      refine (pick_apply Q.step n (rowsOf Q.cl (b.val / 8)) (rowsOf Q.cc (b.val / 8)) (Q.z (10 * (b.val / 8) + n))
        (pk Q.rd Q.z (b.val / 8) (rowsOf Q.c (b.val / 8)) n) ⟨b.val % 8, Nat.mod_lt _ (by decide)⟩ t).trans ?_
      rw [ih (by omega), e Q.cl, e Q.cc, z_eq Q b _ n (by omega)]
      rfl
  exact key 10 le_rfl

end Cert.KernelIdeal.Body

end
-- ==== Proof.Blocks.lean ====
module

public import proofs.«01_k».proof.Proof.Gen.KernelIdeal.Value
public import proofs.«01_k».proof.Proof.Acc
public import Idealize.ShloMosaic.Lib.Pipeline.ValueKit.Point

@[expose] public section

set_option maxRecDepth 16384

/-! The blocks that the windows read, at an index, from the arrays of the launch memory. -/

noncomputable section

namespace Cert.KernelIdeal.Body

open Idealize.ShloMosaic hiding ix1 ix2 ix3
open Idealize.ShloMosaic.TcCoe Idealize.SL.Sem
open Idealize.ShloMosaic.ValueIdx
open Cert.KernelIdeal.Gen

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![t.val, 0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel

theorem coords_val : ∀ t : Fin cfg0.N, (grid0.coords t 0).val = t.val := by decide +kernel

theorem lt25 (t : Fin cfg0.N) : t.val < 25 := t.isLt

theorem iblk_0 (t : Fin cfg0.N) : iblk m c 0 t = m ((c : Thread nD τ).loc main_arg0) := by
  funext y
  blk_ext [iblk, V_main_arg0, index_0 t]

theorem iblk_1 (t : Fin cfg0.N) (k : Fin 768) (v : Fin 1280) :
    iblk m c 1 t (ix2 k v) = m ((c : Thread nD τ).loc main_arg1) (ix2 k ⟨1280 * t.val + v.val, by have := lt25 t; omega⟩) := by
  blk_ext [iblk, V_main_arg1, index_1 t]
  show t.val * 1280 + v.val = _
  omega

theorem iblk_2 (t : Fin cfg0.N) (k : Fin 12) (v : Fin 1280) :
    iblk m c 2 t (ix2 k v) = m ((c : Thread nD τ).loc main_arg2) (ix2 k ⟨1280 * t.val + v.val, by have := lt25 t; omega⟩) := by
  blk_ext [iblk, V_main_arg2, index_2 t]
  show t.val * 1280 + v.val = _
  omega

theorem iblk_3 (t : Fin cfg0.N) (q : Fin 10) (k : Fin 64) (v : Fin 128) :
    iblk m c 3 t (ix3 q k v) = m ((c : Thread nD τ).loc main_arg3) (ix3 ⟨10 * t.val + q.val, by have := lt25 t; omega⟩ k v) := by
  blk_ext [iblk, V_main_arg3, index_3 t]
  show t.val * 10 + q.val = _
  omega

theorem V_row4 (b : Fin 128) : V m c main_v0 (ix2 (0 : Fin 1) b : S1x128.Idx) = m ((c : Thread nD τ).loc main_arg4) (ix1 b) := by
  entry_read
  exact shapeCast_apply (s := S128) (t := S1x128) _ _ _ _ (by
    rw [Shape.rowMajor_val_two, Shape.rowMajor_val_one]; show b.val = 0 * 128 + b.val; omega)

theorem iblk_4 (t : Fin cfg0.N) (b : Fin 128) :
    iblk m c 4 t (ix2 0 b) = m ((c : Thread nD τ).loc main_arg4) (ix1 b) := by
  have e : (win0_4.blk t).view.emb (ix2 (0 : Fin 1) b : S1x128.Idx) = (ix2 (0 : Fin 1) b : S1x128.Idx) := by
    blk_ext [index_4 t]
  exact (congrArg (V m c main_v0) e).trans (V_row4 m c b)

theorem V_row5 (b : Fin 128) : V m c main_v1 (ix2 (0 : Fin 1) b : S1x128.Idx) = m ((c : Thread nD τ).loc main_arg5) (ix1 b) := by
  entry_read
  exact shapeCast_apply (s := S128) (t := S1x128) _ _ _ _ (by
    rw [Shape.rowMajor_val_two, Shape.rowMajor_val_one]; show b.val = 0 * 128 + b.val; omega)

theorem iblk_5 (t : Fin cfg0.N) (b : Fin 128) :
    iblk m c 5 t (ix2 0 b) = m ((c : Thread nD τ).loc main_arg5) (ix1 b) := by
  have e : (win0_5.blk t).view.emb (ix2 (0 : Fin 1) b : S1x128.Idx) = (ix2 (0 : Fin 1) b : S1x128.Idx) := by
    blk_ext [index_5 t]
  exact (congrArg (V m c main_v1) e).trans (V_row5 m c b)

theorem V_row6 (b : Fin 128) : V m c main_v2 (ix2 (0 : Fin 1) b : S1x128.Idx) = m ((c : Thread nD τ).loc main_arg6) (ix1 b) := by
  entry_read
  exact shapeCast_apply (s := S128) (t := S1x128) _ _ _ _ (by
    rw [Shape.rowMajor_val_two, Shape.rowMajor_val_one]; show b.val = 0 * 128 + b.val; omega)

theorem iblk_6 (t : Fin cfg0.N) (b : Fin 128) :
    iblk m c 6 t (ix2 0 b) = m ((c : Thread nD τ).loc main_arg6) (ix1 b) := by
  have e : (win0_6.blk t).view.emb (ix2 (0 : Fin 1) b : S1x128.Idx) = (ix2 (0 : Fin 1) b : S1x128.Idx) := by
    blk_ext [index_6 t]
  exact (congrArg (V m c main_v2) e).trans (V_row6 m c b)

theorem iblk_7 (t : Fin cfg0.N) : iblk m c 7 t = m ((c : Thread nD τ).loc main_arg7) := by
  funext y
  blk_ext [iblk, V_main_arg7, index_7 t]

end Cert.KernelIdeal.Body
end
-- ==== Proof.Columns.lean ====
module

public import proofs.«01_k».proof.Proof.Acc
public import Idealize.ShloMosaic.Lib.ValueLayout
public import Idealize.ShloMosaic.Lib.IdealHost

@[expose] public section

set_option maxRecDepth 16384

/-! The columns that the first grid point writes, entry by entry. -/

noncomputable section

namespace Cert.KernelIdeal.Body

open Idealize.ShloMosaic Idealize.ShloMosaic.TcCoe Idealize.SL.Sem
open Idealize.ShloMosaic.ValueIdx
open Cert.KernelIdeal.Gen

/-- A row of penalties as a column: the entry of row `b`, in every lane. -/
theorem pay8_apply (v : Vec Ideal S1x128 .f32) (b t : Fin 128) : k0_pay8 (F := Ideal) v (ix2 b t) = v (ix2 0 b) := by
  unfold k0_pay8
  simp only [shapeCast_self]
  refine (transpose_apply [1, 0] _ _ (ix2 b t) (ix2 t b) (by intro a; fin_cases a <;> rfl)).trans ?_
  exact broadcastTo_apply _ _ _ (ix2 0 b) (by intro a; fin_cases a <;> rfl)

theorem pay6_apply (v : Vec Ideal S1x128 .f32) (b t : Fin 128) : k0_pay6 (F := Ideal) v (ix2 b t) = v (ix2 0 b) := by
  refine Eq.trans ?_ (pay8_apply v b t)
  unfold k0_pay6 k0_pay8
  simp only [shapeCast_self]

theorem pay7_apply (v : Vec Ideal S1x128 .f32) (b t : Fin 128) : k0_pay7 (F := Ideal) v (ix2 b t) = v (ix2 0 b) := by
  refine Eq.trans ?_ (pay8_apply v b t)
  unfold k0_pay7 k0_pay8
  simp only [shapeCast_self]

theorem pay9_apply (v : Vec Ideal S1x128 .f32) (b t : Fin 128) : k0_pay9 (F := Ideal) v (ix2 b t) = v (ix2 0 b) := by
  refine Eq.trans ?_ (pay8_apply v b t)
  unfold k0_pay9
  simp only [shapeCast_self]

theorem pay10_apply (v : Vec Ideal S1x128 .f32) (b t : Fin 128) :
    k0_pay10 (F := Ideal) v (ix2 b t) = Ideal.div 1 (v (ix2 0 b)) := by
  unfold k0_pay10
  simp only [shapeCast_self]
  show Ideal.div (Ideal.ofBits .f32 0x3F800000#32) (k0_pay8 (F := Ideal) v (ix2 b t)) = _
  rw [pay8_apply, Ideal.ofBits_one_f32]

theorem pay15_apply (j : S128x128.Idx) : k0_pay15 (F := Ideal) j = (⊥ : EReal) := by
  unfold k0_pay15
  simp only [shapeCast_self]
  show Ideal.ofBits .f32 0xFF800000#32 = ⊥
  simp [Ideal.ofBits, Ideal.ieee]

theorem pay16_apply (j : S128x128.Idx) : k0_pay16 (F := Ideal) j = (0 : EReal) := by
  unfold k0_pay16
  simp only [shapeCast_self]
  exact Ideal.ofBits_zero_f32

/-- The candidates, padded with 0 to 128 lanes, at a lane of their own. -/
theorem pay11_apply (v : Vec Ideal S128x20 .i32) (b : Fin 128) (t : Fin 20) :
    k0_pay11 (F := Ideal) v (ix2 b ⟨t.val, by omega⟩) = v (ix2 b t) := by
  unfold k0_pay11
  exact concatenate_pair_apply_left (s₁ := S128x20) (s₂ := S128x108) (t := S128x128) _ _ _ _
    (ix2 b (⟨t.val, by omega⟩ : Fin 128)) rfl (ix2 b t : S128x20.Idx)
    (by intro a; fin_cases a <;> rfl)

theorem pay13_apply (v : Vec Ideal S128x20 .i32) (b : Fin 128) (t : Fin 20) :
    k0_pay13 (k0_pay12 (F := Ideal) v) (ix2 b ⟨t.val, by omega⟩) = v (ix2 b t) &&& 127#32 := by
  unfold k0_pay13 k0_pay12
  simp only [shapeCast_self]
  exact congrArg (· &&& 127#32) (pay11_apply v b t)

theorem pay14_apply (v : Vec Ideal S128x20 .i32) (b : Fin 128) (t : Fin 20) :
    k0_pay14 (k0_pay11 (F := Ideal) v) (ix2 b ⟨t.val, by omega⟩) = IntOp.shrsi .vector (v (ix2 b t)) 7#32 := by
  unfold k0_pay14
  simp only [shapeCast_self]
  exact congrArg (fun w => IntOp.shrsi .vector w 7#32) (pay11_apply v b t)

/-- The largest of row `b`'s maxima over the lanes. -/
def top (m : Vec Ideal S128x128 .f32) (b : Fin 128) : EReal :=
  (Finset.univ : Finset (Fin 128)).fold max ⊥ fun t => m (ix2 b t)

/-- The log of the sum of exponentials of row `b`, from the lanes' maxima and sums. -/
def lseOf (m l : Vec Ideal S128x128 .f32) (b : Fin 128) : EReal :=
  top m b + Ideal.log (∑ t : Fin 128, l (ix2 b t) * Ideal.exp (m (ix2 b t) - top m b))

theorem rowMax_apply (m : Vec Ideal S128x128 .f32) (b : Fin 128) :
    multiReduction (F := Ideal) .maximumf [1] S128 m 0xFF800000#32 reduces_S128x128_S128 (.inl rfl) rfl (ix1 b) = top m b := by
  refine (Ideal.multiReduction_maximumf_single _ _ _ _ _ _).trans ?_
  have e : FloatOps.ofBits (F := Ideal) .f32 0xFF800000#32 = (⊥ : EReal) := by
    show Ideal.ofBits .f32 0xFF800000#32 = ⊥
    simp [Ideal.ofBits, Ideal.ieee]
  rw [e]
  refine Finset.fold_congr fun t _ => ?_
  exact congrArg m (idx2_ext rfl rfl)

theorem pay3_apply (m l : Vec Ideal S128x128 .f32) (b : Fin 128) :
    k0_pay3 (F := Ideal) m l (ix2 b 0) = lseOf m l b := by
  have hc : ∀ v : FVec Ideal S128 .f32, shapeCast S128x1 v shapeCasts_S128_S128x1 (ix2 b 0) = v (ix1 b) := fun v =>
    shapeCast_apply _ _ _ _ (by rw [Shape.rowMajor_val_two, Shape.rowMajor_val_one]; show b.val = b.val * 1 + 0; omega)
  unfold k0_pay3
  refine (congrArg₂ (fun p q : EReal => p + Ideal.log q) (hc _) (hc _)).trans ?_
  refine (congrArg₂ (fun p q : EReal => p + Ideal.log q) (rowMax_apply m b)
    (Ideal.multiReduction_add_single _ _ _ _ _ _)).trans ?_
  unfold lseOf
  refine congrArg (fun q : EReal => top m b + Ideal.log q) (Finset.sum_congr rfl fun t _ => ?_)
  have ei : (reduces_S128x128_S128).lift (ix1 b) t = (ix2 b t : S128x128.Idx) := idx2_ext rfl rfl
  rw [ei]
  show l (ix2 b t) * Ideal.exp (m (ix2 b t) - _) = _
  refine congrArg (fun q : EReal => l (ix2 b t) * Ideal.exp (m (ix2 b t) - q)) ?_
  refine (broadcastTo_apply _ _ _ (ix2 b 0) (by intro a; fin_cases a <;> rfl)).trans ?_
  exact (hc _).trans (rowMax_apply m b)

theorem pay4_apply (m l : Vec Ideal S128x128 .f32) (c : Vec Ideal S128x20 .f32) (b : Fin 128) (t : Fin 20) :
    k0_pay4 (F := Ideal) m l c (ix2 b t) = (c (ix2 b t) - lseOf m l b : EReal) := by
  unfold k0_pay4
  refine congrArg (fun q : EReal => c (ix2 b t) - q) ?_
  exact (broadcastTo_apply _ _ _ (ix2 b 0) (by intro a; fin_cases a <;> rfl)).trans (pay3_apply m l b)

theorem pay5_apply (m l : Vec Ideal S128x128 .f32) (b : Fin 128) :
    k0_pay5 (F := Ideal) m l (ix2 0 b) = lseOf m l b := by
  unfold k0_pay5
  simp only [shapeCast_self]
  refine (extractStridedSlice_apply _ _ _ _ (ix2 (0 : Fin 128) b) (by intro a; fin_cases a <;> simp)).trans ?_
  refine (transpose_apply [1, 0] _ _ (ix2 0 b) (ix2 b 0) (by intro a; fin_cases a <;> rfl)).trans ?_
  exact (broadcastTo_apply _ _ _ (ix2 b 0) (by intro a; fin_cases a <;> rfl)).trans (pay3_apply m l b)

end Cert.KernelIdeal.Body
end
-- ==== Proof.LogSum.lean ====
module

public import proofs.«01_k».proof.Proof.Acc
public import Mathlib.Analysis.SpecialFunctions.Exp

@[expose] public section

/-! Running maxima, running sums of exponentials and running choices over a sequence of numbers. -/

noncomputable section

namespace Cert.KernelIdeal.Body

open Idealize.ShloMosaic

/-- Ten more values after `n`: the running maximum goes on. -/
theorem runMax_add (m : EReal) (y : ℕ → EReal) (n k : ℕ) :
    runMax (runMax m y n) (fun i => y (n + i)) k = runMax m y (n + k) := by
  induction k with
  | zero => rfl
  | succ k ih =>
    show max (runMax (runMax m y n) (fun i => y (n + i)) k) (y (n + k)) = max (runMax m y (n + k)) (y (n + k))
    rw [ih]

theorem runSum_eq (l : EReal) (y : ℕ → EReal) (n : ℕ) : runSum l y n = l + ∑ k ∈ Finset.range n, y k := by
  induction n with
  | zero => simp [runSum]
  | succ n ih =>
    show runSum l y n + y n = _
    rw [ih, Finset.sum_range_succ, add_assoc]

theorem runPick_add (c : EReal) (p : ℕ → Prop) [DecidablePred p] (y : ℕ → EReal) (n k : ℕ) :
    runPick (runPick c p y n) (fun i => p (n + i)) (fun i => y (n + i)) k = runPick c p y (n + k) := by
  induction k with
  | zero => rfl
  | succ k ih =>
    show (if p (n + k) then y (n + k) else runPick (runPick c p y n) (fun i => p (n + i)) (fun i => y (n + i)) k)
      = if p (n + k) then y (n + k) else runPick c p y (n + k)
    rw [ih]

theorem runPick_congr {c : EReal} {p p' : ℕ → Prop} [DecidablePred p] [DecidablePred p'] {y y' : ℕ → EReal} {n : ℕ}
    (hp : ∀ k < n, (p k ↔ p' k)) (hy : ∀ k < n, y k = y' k) : runPick c p y n = runPick c p' y' n := by
  induction n with
  | zero => rfl
  | succ n ih =>
    show (if p n then y n else runPick c p y n) = if p' n then y' n else runPick c p' y' n
    rw [ih (fun k hk => hp k (by omega)) fun k hk => hy k (by omega), hy n (by omega)]
    simp only [hp n (by omega)]

/-- A choice that one index alone makes. -/
theorem runPick_single {c : EReal} {p : ℕ → Prop} [DecidablePred p] {y : ℕ → EReal} {q n : ℕ}
    (hp : ∀ k < n, (p k ↔ k = q)) (hq : q < n) : runPick c p y n = y q := by
  induction n with
  | zero => omega
  | succ n ih =>
    show (if p n then y n else runPick c p y n) = y q
    by_cases h : n = q
    · rw [if_pos ((hp n (by omega)).mpr h), h]
    · rw [if_neg fun h' => h ((hp n (by omega)).mp h')]
      exact ih (fun k hk => hp k (by omega)) (by omega)

theorem le_runMax (m : EReal) (y : ℕ → EReal) {n k : ℕ} (hk : k < n) : y k ≤ runMax m y n := by
  induction n with
  | zero => omega
  | succ n ih =>
    show y k ≤ max (runMax m y n) (y n)
    by_cases h : k = n
    · rw [h]; exact le_max_right _ _
    · exact (ih (by omega)).trans (le_max_left _ _)

theorem runMax_le {m b : EReal} {y : ℕ → EReal} {n : ℕ} (hm : m ≤ b) (h : ∀ k < n, y k ≤ b) : runMax m y n ≤ b := by
  induction n with
  | zero => exact hm
  | succ n ih => exact max_le (ih fun k hk => h k (by omega)) (h n (by omega))

/-- The maximum of one or more real numbers is real. -/
theorem runMax_real {y : ℕ → EReal} (hy : ∀ k, ∃ r : ℝ, y k = r) (n : ℕ) : ∃ r : ℝ, runMax ⊥ y (n + 1) = r := by
  induction n with
  | zero =>
    obtain ⟨r, e⟩ := hy 0
    exact ⟨r, by show max ⊥ (y 0) = _; rw [e]; exact max_eq_right bot_le⟩
  | succ n ih =>
    obtain ⟨a, ea⟩ := ih
    obtain ⟨r, e⟩ := hy (n + 1)
    refine ⟨max a r, ?_⟩
    show max (runMax ⊥ y (n + 1)) (y (n + 1)) = _
    rw [ea, e]
    exact (EReal.coe_strictMono.monotone.map_max).symm

theorem exp_sub_real (a b : ℝ) : Ideal.exp ((a : EReal) - (b : EReal)) = ((Real.exp (a - b) : ℝ) : EReal) := by
  rw [← EReal.coe_sub]
  rfl

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A sum of exponentials over one maximum, carried over to another. -/
theorem sumExp_rescale {ι : Type} (s : Finset ι) {y : ι → EReal} (hy : ∀ k, ∃ r : ℝ, y k = r) (a b : ℝ) :
    (∑ k ∈ s, Ideal.exp (y k - (a : EReal))) * Ideal.exp ((a : EReal) - (b : EReal)) = ∑ k ∈ s, Ideal.exp (y k - (b : EReal)) := by
  choose r hr using hy
  simp only [hr, exp_sub_real, coe_sum]
  rw [← EReal.coe_mul, Finset.sum_mul]
  refine congrArg _ (Finset.sum_congr rfl fun k _ => ?_)
  rw [← Real.exp_add]
  congr 1
  ring

/-- Ten more values after `n`: the sum of exponentials over the running maximum goes on. -/
theorem sumExp_step {y : ℕ → EReal} (hy : ∀ k, ∃ r : ℝ, y k = r) (n k : ℕ) :
    runSum ((∑ q ∈ Finset.range n, Ideal.exp (y q - runMax ⊥ y n)) * Ideal.exp (runMax ⊥ y n - runMax ⊥ y (n + (k + 1))))
      (fun i => Ideal.exp (y (n + i) - runMax ⊥ y (n + (k + 1)))) (k + 1)
    = ∑ q ∈ Finset.range (n + (k + 1)), Ideal.exp (y q - runMax ⊥ y (n + (k + 1))) := by
  rw [runSum_eq, Finset.sum_range_add (fun q => Ideal.exp (y q - runMax ⊥ y (n + (k + 1)))) n (k + 1)]
  congr 1
  cases n with
  | zero => simp
  | succ n =>
    obtain ⟨a, ea⟩ := runMax_real hy n
    obtain ⟨b, eb⟩ := runMax_real hy (n + 1 + k)
    have eb' : runMax ⊥ y (n + 1 + (k + 1)) = b := eb
    rw [ea, eb']
    exact sumExp_rescale _ hy a b

end Cert.KernelIdeal.Body
end
-- ==== Proof.Logits.lean ====
module

public import proofs.«01_k».proof.Proof.Sweep
public import proofs.«01_k».proof.Proof.Blocks
public import proofs.«01_k».proof.Proof.Columns
public import proofs.«01_k».proof.Proof.LogSum

@[expose] public section

set_option maxRecDepth 16384

/-! The penalized logits as a function of the argument arrays, and what every grid point holds of them: its tile, and in
every lane of a row the running maximum, the sum of exponentials and the candidate's logit of the columns so far. -/

noncomputable section

namespace Cert.KernelIdeal.Body

open Idealize.ShloMosaic hiding ix1 ix2 ix3
open Idealize.ShloMosaic.TcCoe Idealize.SL.Sem
open Idealize.ShloMosaic.ValueIdx
open Cert.KernelIdeal.Gen Cert.KernelIdeal.Value

/-- The argument arrays of the kernel. -/
structure Args where
  x : Vec Ideal S128x1536 .bf16
  w : Vec Ideal S768x32000 .i8
  s : Vec Ideal S12x32000 .f32
  cn : Vec Ideal S250x64x128 .i32
  p : Vec Ideal S128 .f32
  f : Vec Ideal S128 .f32
  r : Vec Ideal S128 .f32
  cand : Vec Ideal S128x20 .i32

/-- The product of row `b` of the activations with column `v` of the dequantized head. -/
def Args.raw (A : Args) (b : Fin 128) (v : Fin 32000) : EReal :=
  ∑ k : Fin 1536, (A.x (ix2 b k) : EReal) * deq (A.w (ix2 ⟨k.val / 2, half_lt k⟩ v)) (k.val % 2) (A.s (ix2 ⟨k.val / 128, group_lt k⟩ v))

/-- The count of token `v` in row `b`. -/
def Args.count (A : Args) (b : Fin 128) (v : Fin 32000) : BitVec 32 :=
  Body.count (b.val / 8) (A.cn (ix3 ⟨v.val / 128, by omega⟩ ⟨8 * (b.val / 16) + b.val % 8, by omega⟩ ⟨v.val % 128, Nat.mod_lt _ (by decide)⟩))

/-- The penalized logit. -/
def Args.logit (A : Args) (b : Fin 128) (v : Fin 32000) : EReal :=
  pen (A.count b v) (A.p (ix1 b)) (A.f (ix1 b)) (A.r (ix1 b)) (Ideal.div 1 (A.r (ix1 b))) (A.raw b v)

/-- The logits of row `b` in lane `t`, chunk after chunk. -/
def Args.seq (A : Args) (b t : Fin 128) (q : ℕ) : EReal := A.logit b ⟨(128 * q + t.val) % 32000, Nat.mod_lt _ (by decide)⟩

/-- `Q` computes from the arrays `A` at grid point `n`. -/
structure Good (A : Args) (n : Fin 25) (Q : Pt Ideal) : Prop where
  x : Q.x = A.x
  w : ∀ k v, Q.w (ix2 k v) = A.w (ix2 k ⟨1280 * n.val + v.val, by omega⟩)
  s : ∀ k v, Q.s (ix2 k v) = A.s (ix2 k ⟨1280 * n.val + v.val, by omega⟩)
  cn : ∀ q k v, Q.cn (ix3 q k v) = A.cn (ix3 ⟨10 * n.val + q.val, by omega⟩ k v)
  p : ∀ b t, Q.p (ix2 b t) = A.p (ix1 b)
  f : ∀ b t, Q.f (ix2 b t) = A.f (ix1 b)
  r : ∀ b t, Q.r (ix2 b t) = A.r (ix1 b)
  ri : ∀ b t, Q.ri (ix2 b t) = Ideal.div 1 (A.r (ix1 b))
  cl : ∀ b (t : Fin 20), Q.cl (ix2 b ⟨t.val, by omega⟩) = A.cand (ix2 b t) &&& 127#32
  cc : ∀ b (t : Fin 20), Q.cc (ix2 b ⟨t.val, by omega⟩) = IntOp.shrsi .vector (A.cand (ix2 b t)) 7#32
  step : Q.step = BitVec.ofNat 32 n.val

/-- The tile of a point holds its columns of the logits. -/
theorem Good.tile {A : Args} {n : Fin 25} {Q : Pt Ideal} (h : Good A n Q) (b : Fin 128) (v : Fin 1280) :
    Q.tile (ix2 b v) = A.logit b ⟨1280 * n.val + v.val, by omega⟩ := by
  refine (tile_apply Q (ix2 b v)).trans ?_
  have hl : lane (ix2 b v) = ix2 b ⟨v.val % 128, Nat.mod_lt _ (by decide)⟩ := rfl
  have hr : Q.raw (ix2 b v) = A.raw b ⟨1280 * n.val + v.val, by omega⟩ := by
    refine Finset.sum_congr rfl fun k _ => ?_
    show (Q.x (ix2 b k) : EReal) * deq (Q.w (ix2 ⟨k.val / 2, half_lt k⟩ v)) (k.val % 2) (Q.s (ix2 ⟨k.val / 128, group_lt k⟩ v)) = _
    rw [h.x, h.w, h.s]
  have hc : Q.cn (word (ix2 b v)) = A.cn (ix3 ⟨(1280 * n.val + v.val) / 128, by omega⟩ ⟨8 * (b.val / 16) + b.val % 8, by omega⟩
      ⟨(1280 * n.val + v.val) % 128, Nat.mod_lt _ (by decide)⟩) := by
    refine (h.cn _ _ _).trans (congrArg A.cn ?_)
    have e1 : 10 * n.val + v.val / 128 = (1280 * n.val + v.val) / 128 := by omega
    have e2 : v.val % 128 = (1280 * n.val + v.val) % 128 := by omega
    congr 1
    · exact Fin.ext e1
    · exact Fin.ext e2
  rw [hl, hr, hc, h.p, h.f, h.r, h.ri]
  rfl

theorem Good.chunk {A : Args} {n : Fin 25} {Q : Pt Ideal} (h : Good A n Q) (b t : Fin 128) (k : ℕ) (hk : k < 10) :
    Q.tile (atChunk b k t) = A.seq b t (10 * n.val + k) := by
  refine (h.tile b _).trans ?_
  unfold Args.seq
  refine congrArg (A.logit b) (Fin.ext ?_)
  show 1280 * n.val + (128 * k + t.val) % 1280 = (128 * (10 * n.val + k) + t.val) % 32000
  omega

/-- The lane and the chunk of a candidate token. -/
theorem cand_lane (w : BitVec 32) (h : w.toNat < 32000) : (candLane (w &&& 127#32)).val = w.toNat % 128 := by
  have e : (w &&& 127#32).toNat = w.toNat % 128 := by
    rw [BitVec.toNat_and]
    exact Nat.and_two_pow_sub_one_eq_mod w.toNat 7
  have e' : ¬ (w &&& 127#32).toInt < 0 := by
    rw [BitVec.toInt_eq_toNat_of_lt (by omega)]; omega
  show (if (w &&& 127#32).toInt < 0 then (w &&& 127#32) + 128#32 else (w &&& 127#32)).toNat % 128 = _
  rw [if_neg e']
  omega

theorem cand_chunk (w : BitVec 32) (h : w.toNat < 32000) : IntOp.shrsi .vector w 7#32 = BitVec.ofNat 32 (w.toNat / 128) := by
  have e : IntOp.shrsi .vector w 7#32 = w.sshiftRight 7 := rfl
  rw [e, BitVec.sshiftRight_eq_of_msb_false (by rw [BitVec.msb_eq_decide]; simp; omega)]
  apply BitVec.eq_of_toNat_eq
  rw [BitVec.toNat_ushiftRight, BitVec.toNat_ofNat, Nat.shiftRight_eq_div_pow]
  omega

/-- What the columns hold after point `n`. -/
structure After (A : Args) (n : ℕ) (m l c : Vec Ideal S128x128 .f32) : Prop where
  m : ∀ b t, m (ix2 b t) = runMax ⊥ (A.seq b t) (10 * n)
  l : (∀ b v, ∃ r : ℝ, A.logit b v = r) → ∀ b t,
    l (ix2 b t) = ∑ q ∈ Finset.range (10 * n), Ideal.exp (A.seq b t q - runMax ⊥ (A.seq b t) (10 * n))
  c : ∀ b (t : Fin 20), (A.cand (ix2 b t)).toNat < 32000 → ∃ c0 : EReal,
    c (ix2 b ⟨t.val, by omega⟩) = runPick c0 (fun q => q = (A.cand (ix2 b t)).toNat / 128)
      (A.seq b ⟨(A.cand (ix2 b t)).toNat % 128, Nat.mod_lt _ (by decide)⟩) (10 * n)

theorem Good.after {A : Args} {n : Fin 25} {Q : Pt Ideal} (h : Good A n Q) (ha : After A n.val Q.m Q.l Q.c) :
    After A (n.val + 1) Q.m' Q.l' Q.c' := by
  have hm : ∀ b t, Q.m' (ix2 b t) = runMax ⊥ (A.seq b t) (10 * (n.val + 1)) := by
    intro b t
    rw [m'_apply, ha.m, runMax_congr fun k hk => h.chunk b t k hk]
    exact runMax_add _ _ (10 * n.val) 10
  refine ⟨hm, ?_, ?_⟩
  · intro hy b t
    rw [l'_apply, hm, ha.m, ha.l hy, runSum_congr fun k hk => by rw [h.chunk b t k hk]]
    exact sumExp_step (fun q => hy b _) (10 * n.val) 9
  · intro b t hw
    obtain ⟨c0, hc⟩ := ha.c b t hw
    refine ⟨c0, ?_⟩
    have el : candLane (Q.cl (ix2 b ⟨t.val, by omega⟩)) = ⟨(A.cand (ix2 b t)).toNat % 128, Nat.mod_lt _ (by decide)⟩ := by
      rw [h.cl]; exact Fin.ext (cand_lane _ hw)
    rw [c'_apply, hc, el, h.cc, cand_chunk _ hw, h.step]
    refine (runPick_congr (p' := fun k => 10 * n.val + k = (A.cand (ix2 b t)).toNat / 128)
      (y' := fun k => A.seq b ⟨(A.cand (ix2 b t)).toNat % 128, Nat.mod_lt _ (by decide)⟩ (10 * n.val + k)) (fun k hk => ?_)
      fun k hk => h.chunk b _ k hk).trans ?_
    · have e : BitVec.ofNat 32 n.val * 10#32 + BitVec.ofNat 32 k = BitVec.ofNat 32 (10 * n.val + k) := by
        apply BitVec.eq_of_toNat_eq
        simp only [BitVec.toNat_add, BitVec.toNat_mul, BitVec.toNat_ofNat]
        omega
      rw [e]
      constructor
      · intro e'
        have := congrArg BitVec.toNat e'
        simp only [BitVec.toNat_ofNat] at this
        omega
      · intro e'; rw [e']
    · exact runPick_add c0 _ _ (10 * n.val) 10

variable (m : (ℓ : Loc nD τ sig) → Buf (Elt Ideal) ℓ) (c : Dev nD)

/-- The argument arrays in the launch memory. -/
def argsOf : Args where
  x := m ((c : Thread nD τ).loc main_arg0)
  w := m ((c : Thread nD τ).loc main_arg1)
  s := m ((c : Thread nD τ).loc main_arg2)
  cn := m ((c : Thread nD τ).loc main_arg3)
  p := m ((c : Thread nD τ).loc main_arg4)
  f := m ((c : Thread nD τ).loc main_arg5)
  r := m ((c : Thread nD τ).loc main_arg6)
  cand := m ((c : Thread nD τ).loc main_arg7)

/-- The first point computes from the argument arrays. -/
theorem good_first (t : Fin cfg0.N) : Good (argsOf m c) t (ptFirst m c t) where
  x := iblk_0 m c t
  w := iblk_1 m c t
  s := iblk_2 m c t
  cn := iblk_3 m c t
  p b k := (pay6_apply (iblk m c 4 t) b k).trans (iblk_4 m c t b)
  f b k := (pay7_apply (iblk m c 5 t) b k).trans (iblk_5 m c t b)
  r b k := (pay9_apply (iblk m c 6 t) b k).trans (iblk_6 m c t b)
  ri b k := (pay10_apply (iblk m c 6 t) b k).trans (congrArg (Ideal.div 1) (iblk_6 m c t b))
  cl b k := (pay13_apply (iblk m c 7 t) b k).trans (congrArg (fun v : Vec Ideal S128x20 .i32 => v (ix2 b k) &&& 127#32) (iblk_7 m c t))
  cc b k := (pay14_apply (iblk m c 7 t) b k).trans
    (congrArg (fun v : Vec Ideal S128x20 .i32 => IntOp.shrsi .vector (v (ix2 b k)) 7#32) (iblk_7 m c t))
  step := congrArg (BitVec.ofNat 32) (coords_val t)

theorem after_first (t : Fin cfg0.N) : After (argsOf m c) 0 (ptFirst m c t).m (ptFirst m c t).l (ptFirst m c t).c where
  m b k := pay15_apply (ix2 b k)
  l _ b k := pay16_apply (ix2 b k)
  c b k _ := ⟨_, rfl⟩

/-- A point computes from the argument arrays when the columns left to it come from such a point. -/
theorem good_next (t t' : Fin cfg0.N) {Q : Pt Ideal} {o : St Ideal} (h : Good (argsOf m c) t Q) (hl : Leaves Q o) :
    Good (argsOf m c) t' (ptNext m c t' o) where
  x := iblk_0 m c t'
  w := iblk_1 m c t'
  s := iblk_2 m c t'
  cn := iblk_3 m c t'
  p b k := (congrFun hl.p _).trans (h.p b k)
  f b k := (congrFun hl.f _).trans (h.f b k)
  r b k := (congrFun hl.r _).trans (h.r b k)
  ri b k := (congrFun hl.ri _).trans (h.ri b k)
  cl b k := (congrFun hl.cl _).trans (h.cl b k)
  cc b k := (congrFun hl.cc _).trans (h.cc b k)
  step := congrArg (BitVec.ofNat 32) (coords_val t')

theorem after_next (t' : Fin cfg0.N) {Q : Pt Ideal} {o : St Ideal} {n : ℕ} (hl : Leaves Q o) (ha : After (argsOf m c) n Q.m' Q.l' Q.c') :
    After (argsOf m c) n (ptNext m c t' o).m (ptNext m c t' o).l (ptNext m c t' o).c := by
  have em : (ptNext m c t' o).m = Q.m' := hl.m
  have el : (ptNext m c t' o).l = Q.l' := hl.l
  have ec : (ptNext m c t' o).c = Q.c' := hl.c
  rw [em, el, ec]
  exact ha

/-- Every point computes from the argument arrays, and leaves what it computes. -/
theorem sweep (n : ℕ) (hn : n < cfg0.N) : ∃ Q : Pt Ideal, Good (argsOf m c) ⟨n, hn⟩ Q ∧ Leaves Q (outsAt0 m c n hn)
    ∧ After (argsOf m c) (n + 1) Q.m' Q.l' Q.c' := by
  induction n with
  | zero =>
    refine ⟨ptFirst m c ⟨0, hn⟩, good_first m c _, ?_, (good_first m c ⟨0, hn⟩).after (after_first m c _)⟩
    rw [outsAt0_zero]
    exact leaves_A m c ⟨0, hn⟩ _ rfl (by show ¬0 % 25 = 24; decide)
  | succ n ih =>
    obtain ⟨Q, hg, hl, ha⟩ := ih (Nat.lt_of_succ_lt hn)
    have hg' := good_next m c _ ⟨n + 1, hn⟩ hg hl
    refine ⟨ptNext m c ⟨n + 1, hn⟩ (outsAt0 m c n (Nat.lt_of_succ_lt hn)), hg', ?_, hg'.after (after_next m c _ hl ha)⟩
    have h25 : n + 1 < 25 := hn
    rw [outsAt0_succ]
    by_cases h1 : (n + 1) % 25 = 24
    · exact leaves_C m c ⟨n + 1, hn⟩ _ (by show ¬(n + 1) % 25 = 0; omega) h1
    · exact leaves_B m c ⟨n + 1, hn⟩ _ (by show ¬(n + 1) % 25 = 0; omega) h1

/-- The logits array, at a row and a token. -/
theorem G8_eq (b : Fin 128) (v : Fin 32000) : G8 m c (ix2 b v) = (argsOf m c).logit b v := by
  have hp : pt8Of (ix2 b v) = v.val / 1280 := by
    show 25 * (b.val / 128 - 0) + 1 * (v.val / 1280 - 0) = _
    omega
  have hN : pt8Of (ix2 b v) < cfg0.N := by rw [hp]; show _ < 25; omega
  unfold G8
  rw [dif_pos hN]
  obtain ⟨Q, hg, hl, -⟩ := sweep m c (pt8Of (ix2 b v)) hN
  have e := outsAt0_sweep m c (pt8Of (ix2 b v)) hN
  rw [← e, hl.tile]
  have el : loc8Of (ix2 b v) = ix2 b ⟨v.val % 1280, Nat.mod_lt _ (by decide)⟩ := idx2_ext (Nat.mod_eq_of_lt b.isLt) rfl
  rw [el]
  refine (hg.tile _ _).trans (congrArg ((argsOf m c).logit b) (Fin.ext ?_))
  show 1280 * pt8Of (ix2 b v) + v.val % 1280 = v.val
  rw [hp]; omega

/-- The last point: the columns over all the tokens, and the two results made of them. -/
theorem last : ∃ Q : Pt Ideal, After (argsOf m c) 25 Q.m' Q.l' Q.c' ∧ G9 m c = k0_pay5 Q.m' Q.l'
    ∧ G10 m c = k0_pay4 Q.m' Q.l' (fun y => Q.c' ((Rect.unit (s := S128x128) ![0, 0] S128x20.size inb_S128x128_S128x20_0_0).emb y)) := by
  obtain ⟨Q, hg, hl, ha⟩ := sweep m c 23 (by show 23 < 25; decide)
  have h24 : 24 < cfg0.N := by show 24 < 25; decide
  have hg' := good_next m c _ ⟨24, h24⟩ hg hl
  refine ⟨_, hg'.after (after_next m c _ hl ha), ?_, ?_⟩
  · rw [G9_last, ← outsAt0_sweep m c 24 h24, outsAt0_succ]
    exact leaves_C_lse m c ⟨24, h24⟩ _ (by show ¬24 % 25 = 0; decide) rfl
  · rw [G10_last, ← outsAt0_sweep m c 24 h24, outsAt0_succ]
    exact leaves_C_logp m c ⟨24, h24⟩ _ (by show ¬24 % 25 = 0; decide) rfl

end Cert.KernelIdeal.Body
end
-- ==== Proof.Result.lean ====
module

public import proofs.«01_k».proof.Proof.Logits
public import Mathlib.Logic.Equiv.Fin.Basic

@[expose] public section

set_option maxRecDepth 16384

/-! The kernel's three results as functions of the argument arrays: the logits, the log of the sum of their exponentials,
and the candidates' log probabilities. The last two are for real logits. -/

noncomputable section

namespace Cert.KernelIdeal.Body

open Idealize.ShloMosaic hiding ix1 ix2 ix3
open Idealize.ShloMosaic.TcCoe Idealize.SL.Sem
open Idealize.ShloMosaic.ValueIdx
open Cert.KernelIdeal.Gen Cert.KernelIdeal.Value

/-- The largest logit of row `b`. -/
def Args.top (A : Args) (b : Fin 128) : EReal := (Finset.univ : Finset (Fin 32000)).fold max ⊥ (A.logit b)

/-- The log of the sum of exponentials of row `b`. -/
def Args.lse (A : Args) (b : Fin 128) : EReal :=
  A.top b + Ideal.log (∑ v : Fin 32000, Ideal.exp (A.logit b v - A.top b))

/-- Every logit is a real number. -/
def Args.Real (A : Args) : Prop := ∀ b v, ∃ r : ℝ, A.logit b v = r

theorem Args.logit_eq_seq (A : Args) (b : Fin 128) (v : Fin 32000) :
    A.logit b v = A.seq b ⟨v.val % 128, Nat.mod_lt _ (by decide)⟩ (v.val / 128) := by
  refine congrArg (A.logit b) (Fin.ext ?_)
  show v.val = (128 * (v.val / 128) + v.val % 128) % 32000
  omega

theorem After.top {A : Args} {m l c : Vec Ideal S128x128 .f32} (h : After A 25 m l c) (b : Fin 128) : Body.top m b = A.top b := by
  refine le_antisymm (Finset.fold_max_le _ |>.mpr ⟨bot_le, fun t _ => ?_⟩) (Finset.fold_max_le _ |>.mpr ⟨bot_le, fun v _ => ?_⟩)
  · rw [h.m]
    exact runMax_le bot_le fun q _ => (Finset.le_fold_max _).mpr (.inr ⟨_, Finset.mem_univ _, le_rfl⟩)
  · refine (Finset.le_fold_max _).mpr (.inr ⟨⟨v.val % 128, Nat.mod_lt _ (by decide)⟩, Finset.mem_univ _, ?_⟩)
    rw [h.m, A.logit_eq_seq]
    exact le_runMax _ _ (by omega)

theorem Args.Real.top {A : Args} (hy : A.Real) (b : Fin 128) : ∃ r : ℝ, A.top b = r := by
  have h1 : A.top b ≠ ⊤ := ne_of_lt ((Finset.fold_max_lt _).mpr ⟨bot_lt_top, fun v _ => by
    obtain ⟨r, e⟩ := hy b v; rw [e]; exact EReal.coe_lt_top r⟩)
  have h2 : A.top b ≠ ⊥ := by
    obtain ⟨r, e⟩ := hy b 0
    refine ne_of_gt (lt_of_lt_of_le (EReal.bot_lt_coe r) ?_)
    rw [← e]
    exact (Finset.le_fold_max _).mpr (.inr ⟨_, Finset.mem_univ _, le_rfl⟩)
  exact ⟨(A.top b).toReal, (EReal.coe_toReal h1 h2).symm⟩

/-- A sum over the tokens, lane by lane and chunk by chunk. -/
theorem sum_tokens (g : Fin 32000 → EReal) :
    ∑ v, g v = ∑ t : Fin 128, ∑ q ∈ Finset.range 250, g ⟨(128 * q + t.val) % 32000, Nat.mod_lt _ (by decide)⟩ := by
  have e : ∑ v, g v = ∑ x : Fin 250 × Fin 128, g ((finProdFinEquiv x : Fin (250 * 128)) : Fin 32000) :=
    (Fintype.sum_equiv (finProdFinEquiv : Fin 250 × Fin 128 ≃ Fin (250 * 128)) _ (fun v => g v) (fun _ => rfl)).symm
  rw [e, Fintype.sum_prod_type_right]
  refine Finset.sum_congr rfl fun t _ => ?_
  rw [Finset.sum_range]
  refine Finset.sum_congr rfl fun q _ => congrArg g (Fin.ext ?_)
  show t.val + 128 * q.val = (128 * q.val + t.val) % 32000
  omega

theorem After.lse {A : Args} {m l c : Vec Ideal S128x128 .f32} (h : After A 25 m l c) (hy : A.Real) (b : Fin 128) :
    lseOf m l b = A.lse b := by
  obtain ⟨r, er⟩ := hy.top b
  unfold lseOf Args.lse
  rw [h.top, sum_tokens]
  refine congrArg (fun s => A.top b + Ideal.log s) (Finset.sum_congr rfl fun t _ => ?_)
  obtain ⟨a, ea⟩ := runMax_real (y := A.seq b t) (fun q => hy b _) 249
  have ea' : runMax ⊥ (A.seq b t) (10 * 25) = a := ea
  rw [h.l hy, h.m, ea', er]
  exact sumExp_rescale (Finset.range 250) (y := A.seq b t) (fun q => hy b _) a r

/-- A candidate token, as an index of the vocabulary. -/
def Args.tok (A : Args) (b : Fin 128) (t : Fin 20) : Fin 32000 := ⟨(A.cand (ix2 b t)).toNat % 32000, Nat.mod_lt _ (by decide)⟩

theorem After.cand {A : Args} {m l c : Vec Ideal S128x128 .f32} (h : After A 25 m l c) (b : Fin 128) (t : Fin 20)
    (hw : (A.cand (ix2 b t)).toNat < 32000) : c (ix2 b ⟨t.val, by omega⟩) = A.logit b (A.tok b t) := by
  obtain ⟨c0, e⟩ := h.c b t hw
  rw [e, runPick_single (q := (A.cand (ix2 b t)).toNat / 128) (fun k _ => Iff.rfl) (by omega), A.logit_eq_seq]
  have ek : (A.tok b t).val = (A.cand (ix2 b t)).toNat := Nat.mod_eq_of_lt hw
  have e1 : (⟨(A.tok b t).val % 128, Nat.mod_lt _ (by decide)⟩ : Fin 128) = ⟨(A.cand (ix2 b t)).toNat % 128, Nat.mod_lt _ (by decide)⟩ :=
    Fin.ext (by rw [ek])
  rw [e1, ek]

variable (m : (ℓ : Loc nD τ sig) → Buf (Elt Ideal) ℓ) (c : Dev nD)

theorem G9_eq (hy : (argsOf m c).Real) (b : Fin 128) : G9 m c (ix2 0 b) = (argsOf m c).lse b := by
  obtain ⟨Q, ha, e, -⟩ := last m c
  rw [e]
  exact (pay5_apply _ _ b).trans (ha.lse hy b)

theorem G10_eq (hy : (argsOf m c).Real) (b : Fin 128) (t : Fin 20) (hw : ((argsOf m c).cand (ix2 b t)).toNat < 32000) :
    G10 m c (ix2 b t) = ((argsOf m c).logit b ((argsOf m c).tok b t) - (argsOf m c).lse b : EReal) := by
  obtain ⟨Q, ha, -, e⟩ := last m c
  rw [e]
  refine (pay4_apply _ _ _ b t).trans (congrArg₂ (fun a z : EReal => a - z) ?_ (ha.lse hy b))
  refine Eq.trans (congrArg Q.c' (idx2_ext ?_ ?_)) (ha.cand b t hw)
  · show 0 + 1 * b.val = b.val; omega
  · show 0 + 1 * t.val = t.val; omega

/-- The arguments that the precondition admits, as numbers. -/
structure Args.Usable (A : Args) : Prop where
  x : ∀ i, ∃ r : ℝ, (A.x i : EReal) = r
  s : ∀ i, ∃ r : ℝ, (A.s i : EReal) = r
  p : ∀ i, ∃ r : ℝ, (A.p i : EReal) = r
  f : ∀ i, ∃ r : ℝ, (A.f i : EReal) = r
  r : ∀ i, ∃ r : ℝ, (A.r i : EReal) = r ∧ r ≠ 0
  cand : ∀ i, (A.cand i).toNat < 32000

theorem deq_real (w : BitVec 8) (h : ℕ) (s : ℝ) : ∃ r : ℝ, deq w h s = r :=
  ⟨((field w h).toInt : ℝ) * s, by rw [EReal.coe_mul]; rfl⟩

theorem Args.Usable.raw {A : Args} (h : A.Usable) (b : Fin 128) (v : Fin 32000) : ∃ r : ℝ, A.raw b v = r := by
  have hk : ∀ k : Fin 1536, ∃ r : ℝ, (A.x (ix2 b k) : EReal) * deq (A.w (ix2 ⟨k.val / 2, half_lt k⟩ v)) (k.val % 2)
      (A.s (ix2 ⟨k.val / 128, group_lt k⟩ v)) = r := fun k => by
    obtain ⟨x, ex⟩ := h.x (ix2 b k)
    obtain ⟨s, es⟩ := h.s (ix2 ⟨k.val / 128, group_lt k⟩ v)
    obtain ⟨d, ed⟩ := deq_real (A.w (ix2 ⟨k.val / 2, half_lt k⟩ v)) (k.val % 2) s
    exact ⟨x * d, by rw [ex, es, ed, EReal.coe_mul]⟩
  choose r hr using hk
  refine ⟨∑ k, r k, ?_⟩
  unfold Args.raw
  rw [Finset.sum_congr rfl fun k _ => hr k, coe_sum]

theorem Args.Usable.real {A : Args} (h : A.Usable) : A.Real := by
  intro b v
  obtain ⟨z, ez⟩ := h.raw b v
  obtain ⟨p, ep⟩ := h.p (ix1 b)
  obtain ⟨f, ef⟩ := h.f (ix1 b)
  obtain ⟨r, er, hr⟩ := h.r (ix1 b)
  have ed : Ideal.div 1 (r : EReal) = ((r⁻¹ : ℝ) : EReal) := by
    unfold Ideal.div
    rw [if_neg (by exact_mod_cast hr), one_mul, EReal.coe_inv]
  unfold Args.logit pen
  rw [ez, ep, ef, er, ed]
  split
  · refine ⟨z * (if 0 < (z : EReal) then r⁻¹ else r) - (((A.count b v).toInt : ℝ) * f + p), ?_⟩
    rw [EReal.coe_sub, EReal.coe_mul, EReal.coe_add, EReal.coe_mul]
    split <;> rfl
  · exact ⟨z, rfl⟩

end Cert.KernelIdeal.Body
end
-- ==== Proof.Usable.lean ====
module

public import proofs.«01_k».proof.Proof.Result
public import proofs.«01_k».proof.Defs

@[expose] public section

set_option maxRecDepth 16384

/-! What the precondition says of the argument arrays. -/

noncomputable section

namespace Cert.Proof

open Idealize.ShloMosaic hiding ix1 ix2 ix3
open Idealize.ShloMosaic.TcCoe Idealize.SL.Sem
open Cert.KernelIdeal.Body (Args argsOf)

/-- The precondition's shape relations. -/
theorem facts_usable : Cert.Pre_usable.Facts where
  bcast_S_S128x1536 := by decide
  bcast_S_S12x32000 := by decide
  bcast_S_S128 := by decide
  bcast_S_S128x20 := by decide

theorem and_one {a b : BitVec 1} (h : IntOp.andi a b = 1#1) : a = 1#1 ∧ b = 1#1 := by
  revert a b
  decide

theorem ofBool_one {P : Prop} [Decidable P] (h : BitVec.ofBool (decide P) = 1#1) : P := by
  by_contra hP
  rw [decide_eq_false hP] at h
  exact absurd h (by decide)

/-- A value that compares above the pattern of minus infinity and below that of plus infinity is a real number. -/
theorem real_of_bits {φ : FTy} {lo hi : BitVec φ.bits} (el : Ideal.ofBits φ lo = ⊥) (eh : Ideal.ofBits φ hi = ⊤) {x : EReal}
    (h : IntOp.andi (FloatOps.cmpf (F := Ideal) (φ := φ) .ogt x (Ideal.ofBits φ lo)) (FloatOps.cmpf (F := Ideal) (φ := φ) .olt x (Ideal.ofBits φ hi)) = 1#1) :
    ∃ r : ℝ, x = r := by
  obtain ⟨h1, h2⟩ := and_one h
  rw [el] at h1
  rw [eh] at h2
  have g1 : (⊥ : EReal) < x := ofBool_one h1
  have g2 : x < (⊤ : EReal) := ofBool_one h2
  exact ⟨x.toReal, (EReal.coe_toReal g2.ne g1.ne').symm⟩

theorem f32_bot : Ideal.ofBits .f32 0xFF800000#32 = ⊥ := by simp [Ideal.ofBits, Ideal.ieee]
theorem f32_top : Ideal.ofBits .f32 0x7F800000#32 = ⊤ := by simp [Ideal.ofBits, Ideal.ieee]
theorem bf16_bot : Ideal.ofBits .bf16 0xFF80#16 = ⊥ := by simp [Ideal.ofBits, Ideal.ieee]
theorem bf16_top : Ideal.ofBits .bf16 0x7F80#16 = ⊤ := by simp [Ideal.ofBits, Ideal.ieee]

/-- The arrays of a launch that meets the precondition: finite floats, no repetition penalty 0, candidates in the vocabulary. -/
theorem usable_args (m : (ℓ : Loc Cert.KernelIdeal.nD Cert.KernelIdeal.τ Cert.KernelIdeal.sig) → Buf (Elt Ideal) ℓ)
    (h : Cert.Pre_KernelIdeal_usable (hPre_usable := facts_usable) m) (c : Dev Cert.KernelIdeal.nD) : (argsOf m c).Usable := by
  obtain ⟨h0, h1, h2, h3, h4, h5⟩ := h c
  refine ⟨fun i => real_of_bits bf16_bot bf16_top (congrFun h0 i), fun i => real_of_bits f32_bot f32_top (congrFun h1 i),
    fun i => real_of_bits f32_bot f32_top (congrFun h2 i), fun i => real_of_bits f32_bot f32_top (congrFun h3 i), fun i => ?_, fun i => ?_⟩
  · obtain ⟨g, gn⟩ := and_one (congrFun h4 i)
    obtain ⟨r, hr⟩ := real_of_bits f32_bot f32_top g
    refine ⟨r, hr, fun h0 => ?_⟩
    have gn' : (argsOf m c).r i ≠ (Ideal.ofBits .f32 0x00000000#32 : EReal) := ofBool_one gn
    rw [Ideal.ofBits_zero_f32] at gn'
    exact gn' (hr.trans (by rw [h0]; rfl))
  · obtain ⟨g1, g2⟩ := and_one (congrFun h5 i)
    have k1 : (0 : ℤ) ≤ ((argsOf m c).cand i).toInt := ofBool_one g1
    have k2 : ((argsOf m c).cand i).toInt < 32000 := ofBool_one g2
    rw [BitVec.toInt_eq_toNat_cond] at k1 k2
    have := ((argsOf m c).cand i).isLt
    split at k1 <;> omega

end Cert.Proof
-- ==== Proof.RefLogits.lean ====
module

public import proofs.«01_k».proof.Proof.Result
public import proofs.«01_k».proof.Proof.Gen.ReferenceIdeal.Read

@[expose] public section

set_option maxRecDepth 16384

/-! The reference's logits: its products of even and odd fields are one product, its counts are the halves of the
words, and its penalties, written with a division and a mask, are the kernel's. -/

noncomputable section

namespace Cert.ReferenceIdeal.Meaning

open Idealize.ShloMosaic hiding ix1 ix2 ix3
open Idealize.ShloMosaic.TcCoe Idealize.SL.Sem
open Idealize.ShloMosaic.ValueIdx
open Cert.ReferenceIdeal Cert.ReferenceIdeal.Gen Cert.ReferenceIdeal.Read
open Cert.KernelIdeal.Body (Args field deq pen half_lt group_lt idx2_ext)

/-! ## Weights -/

/-- The reference's signed four-bit field of a byte: shift, mask, and subtract 16 from 8 and above. -/
def fieldOf (b : BitVec 8) (sh : BitVec 32) : BitVec 32 :=
  let f := ((IntOp.andi (IntOp.shrsi .host (b.setWidth 32) sh) 15#32).setWidth 8).signExtend 32
  Scalar.select (IntOp.cmpi .sge f 8#32) (IntOp.subi f 16#32) f

theorem fieldOf_zero : ∀ b : BitVec 8, fieldOf b 0#32 = field b 0 := by decide +kernel
theorem fieldOf_four : ∀ b : BitVec 8, fieldOf b 4#32 = field b 1 := by decide +kernel

theorem val_main_v13_eq (w : Vec Ideal S768x32000 .i8) (i : S768x32000.Idx) :
    val_main_v13 (F := Ideal) w i = field (w i) 0 := fieldOf_zero (w i)

theorem val_main_v29_eq (w : Vec Ideal S768x32000 .i8) (i : S768x32000.Idx) :
    val_main_v29 (F := Ideal) w i = field (w i) 1 := fieldOf_four (w i)

theorem scale_lt (j : Fin 768) : j.val / 64 < 12 := by omega

/-- The weights of the even columns: the low fields. -/
theorem even_eq (w : Vec Ideal S768x32000 .i8) (s : Vec Ideal S12x32000 .f32) (j : Fin 768) (v : Fin 32000) :
    val_main_v18 (F := Ideal) w s (ix2 j v) = deq (w (ix2 j v)) 0 (s (ix2 ⟨j.val / 64, scale_lt j⟩ v)) := by
  rw [val_main_v18_apply, val_main_v17_apply, val_main_v15_apply, val_main_v14_apply, val_main_v13_eq, val_main_v16_apply,
    val_main_v1_apply, val_main_v0_apply]
  refine congrArg₂ (fun (a : BitVec 8) (b : EReal) => deq a 0 b) (congrArg w (idx2_ext ?_ ?_)) (congrArg s (idx2_ext ?_ ?_))
  · show (((j.val * 32000 + v.val) / 2048000 * 64 + (j.val * 32000 + v.val) / 32000 % 64) * 32000 + (j.val * 32000 + v.val) % 32000) / 32000 = j.val
    omega
  · show (((j.val * 32000 + v.val) / 2048000 * 64 + (j.val * 32000 + v.val) / 32000 % 64) * 32000 + (j.val * 32000 + v.val) % 32000) % 32000 = v.val
    omega
  · show (j.val * 32000 + v.val) / 2048000 = j.val / 64
    omega
  · show (j.val * 32000 + v.val) % 32000 = v.val
    omega

/-- The weights of the odd columns: the high fields. -/
theorem odd_eq (w : Vec Ideal S768x32000 .i8) (s : Vec Ideal S12x32000 .f32) (j : Fin 768) (v : Fin 32000) :
    val_main_v34 (F := Ideal) w s (ix2 j v) = deq (w (ix2 j v)) 1 (s (ix2 ⟨j.val / 64, scale_lt j⟩ v)) := by
  rw [val_main_v34_apply, val_main_v33_apply, val_main_v31_apply, val_main_v30_apply, val_main_v29_eq, val_main_v32_apply,
    val_main_v1_apply, val_main_v0_apply]
  refine congrArg₂ (fun (a : BitVec 8) (b : EReal) => deq a 1 b) (congrArg w (idx2_ext ?_ ?_)) (congrArg s (idx2_ext ?_ ?_))
  · show (((j.val * 32000 + v.val) / 2048000 * 64 + (j.val * 32000 + v.val) / 32000 % 64) * 32000 + (j.val * 32000 + v.val) % 32000) / 32000 = j.val
    omega
  · show (((j.val * 32000 + v.val) / 2048000 * 64 + (j.val * 32000 + v.val) / 32000 % 64) * 32000 + (j.val * 32000 + v.val) % 32000) % 32000 = v.val
    omega
  · show (j.val * 32000 + v.val) / 2048000 = j.val / 64
    omega
  · show (j.val * 32000 + v.val) % 32000 = v.val
    omega

/-! ## The product -/

theorem double_lt (j : Fin 768) : 2 * j.val < 1536 := by omega
theorem double_succ_lt (j : Fin 768) : 2 * j.val + 1 < 1536 := by omega

theorem even_x (x : Vec Ideal S128x1536 .bf16) (b : Fin 128) (j : Fin 768) :
    val_main_v35 (F := Ideal) x (ix2 b j) = x (ix2 b ⟨2 * j.val, double_lt j⟩) :=
  congrArg x (idx2_ext (by show 0 + 1 * b.val = b.val; omega) (by show 0 + 2 * j.val = 2 * j.val; omega))

theorem odd_x (x : Vec Ideal S128x1536 .bf16) (b : Fin 128) (j : Fin 768) :
    val_main_v37 (F := Ideal) x (ix2 b j) = x (ix2 b ⟨2 * j.val + 1, double_succ_lt j⟩) :=
  congrArg x (idx2_ext (by show 0 + 1 * b.val = b.val; omega) (by show 1 + 2 * j.val = 2 * j.val + 1; omega))

/-- A sum over the columns, the even ones and then the odd ones. -/
theorem sum_pairs (g : Fin 1536 → EReal) :
    ∑ k, g k = ∑ j : Fin 768, g ⟨2 * j.val, double_lt j⟩ + ∑ j : Fin 768, g ⟨2 * j.val + 1, double_succ_lt j⟩ := by
  have e : ∑ k, g k = ∑ x : Fin 768 × Fin 2, g ((finProdFinEquiv x : Fin (768 * 2)) : Fin 1536) :=
    (Equiv.sum_comp (finProdFinEquiv : Fin 768 × Fin 2 ≃ Fin (768 * 2)) g).symm
  rw [e, Fintype.sum_prod_type, ← Finset.sum_add_distrib]
  refine Finset.sum_congr rfl fun j _ => ?_
  rw [Fin.sum_univ_two]
  refine congrArg₂ (fun a b => g a + g b) (Fin.ext ?_) (Fin.ext ?_)
  · show 0 + 2 * j.val = 2 * j.val
    omega
  · show 1 + 2 * j.val = 2 * j.val + 1
    omega

/-- The reference's two products are the product of the dequantized weights. -/
theorem raw_eq (A : Args) (b : Fin 128) (v : Fin 32000) :
    val_main_v39 (F := Ideal) A.x A.w A.s (ix2 b v) = A.raw b v := by
  rw [val_main_v39_apply, val_main_v36_apply, val_main_v38_apply]
  unfold Args.raw
  rw [sum_pairs]
  refine congrArg₂ (fun a b : EReal => a + b) (Finset.sum_congr rfl fun j _ => ?_) (Finset.sum_congr rfl fun j _ => ?_)
  · have el : lidx_main_v36 (ix2 b v) j = ix2 b j := idx2_ext rfl rfl
    have er : ridx_main_v36 (ix2 b v) j = ix2 j v := idx2_ext rfl rfl
    rw [el, er, even_x, even_eq]
    have h0 : 2 * j.val / 2 = j.val := by omega
    have h1 : 2 * j.val % 2 = 0 := by omega
    have h2 : 2 * j.val / 128 = j.val / 64 := by omega
    simp only [h0, h1, h2]
  · have el : lidx_main_v38 (ix2 b v) j = ix2 b j := idx2_ext rfl rfl
    have er : ridx_main_v38 (ix2 b v) j = ix2 j v := idx2_ext rfl rfl
    rw [el, er, odd_x, odd_eq]
    have h0 : (2 * j.val + 1) / 2 = j.val := by omega
    have h1 : (2 * j.val + 1) % 2 = 1 := by omega
    have h2 : (2 * j.val + 1) / 128 = j.val / 64 := by omega
    simp only [h0, h1, h2]

/-! ## Counts -/

theorem parity : ∀ b : Fin 128, IntOp.cmpi .eq (IntOp.andi (IntOp.shrsi .host (BitVec.ofNat 32 b.val) 3#32) 1#32) 0#32
    = BitVec.ofBool (Nat.beq (b.val / 8 % 2) 0) := by decide +kernel

theorem high_half (w : BitVec 32) : IntOp.andi (IntOp.shrui .host w 16#32) 65535#32 = IntOp.shrui .vector w 16#32 := by
  have e : IntOp.shrui .host w 16#32 = w >>> 16 := rfl
  have e' : IntOp.shrui .vector w 16#32 = w >>> 16 := rfl
  rw [e, e']
  refine BitVec.eq_of_toNat_eq ?_
  show (w >>> 16).toNat &&& (65535#32).toNat = (w >>> 16).toNat
  have hw := w.isLt
  have h : (w >>> 16).toNat < 2 ^ 16 := by
    rw [BitVec.toNat_ushiftRight, Nat.shiftRight_eq_div_pow]
    omega
  show (w >>> 16).toNat &&& (2 ^ 16 - 1) = _
  rw [Nat.and_two_pow_sub_one_eq_mod, Nat.mod_eq_of_lt h]

theorem word_row_lt (b : Fin 128) : 8 * (b.val / 16) + b.val % 8 < 64 := by omega
theorem word_chunk_lt (v : Fin 32000) : v.val / 128 < 250 := by omega

theorem word_index (q : Fin 250) (b t : Fin 128) :
    idx_main_v40 (idx_main_v41 (idx_main_v42 (ix3 q b t))) = ix3 q ⟨8 * (b.val / 16) + b.val % 8, word_row_lt b⟩ t := by
  have k0 : ((q.val * 128 + b.val) * 128 + t.val) / 16384 = q.val := by omega
  have k1 : ((q.val * 128 + b.val) * 128 + t.val) / 2048 % 8 = b.val / 16 := by omega
  have k3 : ((q.val * 128 + b.val) * 128 + t.val) / 128 % 8 = b.val % 8 := by omega
  have k4 : ((q.val * 128 + b.val) * 128 + t.val) % 128 = t.val := by omega
  funext a
  apply Fin.ext
  match a with
  | ⟨0, _⟩ =>
    show ((((((q.val * 128 + b.val) * 128 + t.val) / 16384 * 8 + ((q.val * 128 + b.val) * 128 + t.val) / 2048 % 8) * 1 + 0) * 8 + ((q.val * 128 + b.val) * 128 + t.val) / 128 % 8) * 128 + ((q.val * 128 + b.val) * 128 + t.val) % 128) / 8192 = q.val
    rw [k0, k1, k3, k4]
    omega
  | ⟨1, _⟩ =>
    show ((((((q.val * 128 + b.val) * 128 + t.val) / 16384 * 8 + ((q.val * 128 + b.val) * 128 + t.val) / 2048 % 8) * 1 + 0) * 8 + ((q.val * 128 + b.val) * 128 + t.val) / 128 % 8) * 128 + ((q.val * 128 + b.val) * 128 + t.val) % 128) / 128 % 64 = 8 * (b.val / 16) + b.val % 8
    rw [k0, k1, k3, k4]
    omega
  | ⟨2, _⟩ =>
    show ((((((q.val * 128 + b.val) * 128 + t.val) / 16384 * 8 + ((q.val * 128 + b.val) * 128 + t.val) / 2048 % 8) * 1 + 0) * 8 + ((q.val * 128 + b.val) * 128 + t.val) / 128 % 8) * 128 + ((q.val * 128 + b.val) * 128 + t.val) % 128) % 128 = t.val
    rw [k0, k1, k3, k4]
    omega

theorem chunk_index (b : Fin 128) (v : Fin 32000) :
    idx_main_v43 (idx_main_v44 (ix2 b v)) = ix3 ⟨v.val / 128, word_chunk_lt v⟩ b ⟨v.val % 128, Nat.mod_lt _ (by decide)⟩ := by
  funext a
  apply Fin.ext
  match a with
  | ⟨0, _⟩ =>
    show (b.val * 32000 + v.val) / 128 % 250 = v.val / 128
    omega
  | ⟨1, _⟩ =>
    show (b.val * 32000 + v.val) / 32000 = b.val
    omega
  | ⟨2, _⟩ =>
    show (b.val * 32000 + v.val) % 128 = v.val % 128
    omega

/-- The word that a row of the reference reads for a token. -/
theorem words_eq (cn : Vec Ideal S250x64x128 .i32) (b : Fin 128) (v : Fin 32000) :
    val_main_v44 (F := Ideal) cn (ix2 b v)
      = cn (ix3 ⟨v.val / 128, word_chunk_lt v⟩ ⟨8 * (b.val / 16) + b.val % 8, word_row_lt b⟩ ⟨v.val % 128, Nat.mod_lt _ (by decide)⟩) := by
  rw [val_main_v44_apply, val_main_v43_apply, val_main_v42_apply, val_main_v41_apply, val_main_v40_apply, chunk_index, word_index]

theorem count_eq (A : Args) (b : Fin 128) (v : Fin 32000) : val_main_v58 (F := Ideal) A.cn (ix2 b v) = A.count b v := by
  have h57 : val_main_v57 (F := Ideal) (ix2 b v) = BitVec.ofBool (Nat.beq (b.val / 8 % 2) 0) := parity b
  rw [val_main_v58_apply, h57, val_main_v47_apply, val_main_v51_apply, val_main_v49_apply, words_eq]
  unfold Args.count Cert.KernelIdeal.Body.count
  cases Nat.beq (b.val / 8 % 2) 0
  · exact high_half _
  · rfl

theorem count_nonneg (g : ℕ) (w : BitVec 32) : 0 ≤ (Cert.KernelIdeal.Body.count g w).toInt := by
  have hw := w.isLt
  have h : (Cert.KernelIdeal.Body.count g w).toNat < 65536 := by
    unfold Cert.KernelIdeal.Body.count
    cases Nat.beq (g % 2) 0
    · show (w >>> 16).toNat < 65536
      rw [BitVec.toNat_ushiftRight, Nat.shiftRight_eq_div_pow]
      omega
    · show w.toNat &&& 65535 < 65536
      exact Nat.lt_succ_of_le Nat.and_le_right
  rw [BitVec.toInt_eq_toNat_of_lt (by omega)]
  omega

/-! ## Penalties -/

/-- The reference's penalties are the kernel's: a division for a product with the reciprocal, and a mask for a choice. -/
theorem pen_eq (c : BitVec 32) (hc : 0 ≤ c.toInt) {p f r : ℝ} (hr : r ≠ 0) (z : ℝ) :
    (Scalar.select (BitVec.ofBool (decide ((0 : EReal) < ((c.toInt : ℝ) : EReal))))
        (Scalar.select (BitVec.ofBool (decide ((0 : EReal) < (z : EReal)))) (Ideal.div (z : EReal) (r : EReal)) ((z : EReal) * (r : EReal))) (z : EReal)
      - ((c.toInt : ℝ) : EReal) * (f : EReal))
      - (((BitVec.ofBool (decide ((0 : EReal) < ((c.toInt : ℝ) : EReal)))).toNat : ℝ) : EReal) * (p : EReal)
      = pen c p f r (Ideal.div 1 (r : EReal)) z := by
  have hs : ((0 : EReal) < ((c.toInt : ℝ) : EReal)) ↔ 0 < c.toInt := by
    rw [← EReal.coe_zero, EReal.coe_lt_coe_iff]
    exact Int.cast_pos
  have hd : Ideal.div 1 (r : EReal) = ((1 / r : ℝ) : EReal) := by rw [Ideal.div_coe hr, one_mul]
  unfold pen
  rw [Cert.KernelIdeal.Body.select_ofBool, Cert.KernelIdeal.Body.select_ofBool, hd, Ideal.div_coe hr]
  by_cases h : 0 < c.toInt
  · rw [if_pos (hs.mpr h), if_pos h, decide_eq_true (hs.mpr h)]
    show (_ - _ : EReal) - ((((1 : ℕ) : ℝ)) : EReal) * _ = _ - (((c.toInt : ℝ) : EReal) * _ + _)
    split
    · norm_cast
      push_cast
      ring_nf
    · norm_cast
      push_cast
      ring_nf
  · have h0 : c.toInt = 0 := by omega
    rw [if_neg (mt hs.mp h), if_neg h, decide_eq_false (mt hs.mp h), h0]
    show ((z : EReal) - (((0 : ℤ) : ℝ) : EReal) * _) - ((((0 : ℕ) : ℝ)) : EReal) * _ = _
    simp

/-- The reference's logits. -/
theorem logits_eq (A : Args) (h : A.Usable) (b : Fin 128) (v : Fin 32000) :
    val_main_v79 (F := Ideal) A.x A.w A.s A.cn A.p A.f A.r (ix2 b v) = A.logit b v := by
  obtain ⟨z, hz⟩ := h.raw b v
  obtain ⟨p, hp⟩ := h.p (ix1 b)
  obtain ⟨f, hf⟩ := h.f (ix1 b)
  obtain ⟨r, hr, hr0⟩ := h.r (ix1 b)
  have e77 : val_main_v77 (F := Ideal) A.p (ix2 b v) = A.p (ix1 b) := by
    rw [val_main_v77_apply, val_main_v76_apply]
    exact congrArg A.p (funext fun a => Fin.ext (match a with | ⟨0, _⟩ => rfl))
  have e72 : val_main_v72 (F := Ideal) A.f (ix2 b v) = A.f (ix1 b) := by
    rw [val_main_v72_apply, val_main_v71_apply]
    exact congrArg A.f (funext fun a => Fin.ext (match a with | ⟨0, _⟩ => rfl))
  have e65 : val_main_v65 (F := Ideal) A.r (ix2 b v) = A.r (ix1 b) := by
    rw [val_main_v65_apply, val_main_v62_apply]
    exact congrArg A.r (funext fun a => Fin.ext (match a with | ⟨0, _⟩ => rfl))
  have e67 : val_main_v67 (F := Ideal) A.r (ix2 b v) = A.r (ix1 b) := by
    rw [val_main_v67_apply, val_main_v62_apply]
    exact congrArg A.r (funext fun a => Fin.ext (match a with | ⟨0, _⟩ => rfl))
  have e60 : val_main_v60 (F := Ideal) (ix2 b v) = (0 : EReal) := Ideal.ofBits_zero_f32
  have e63 : val_main_v63 (F := Ideal) (ix2 b v) = (0 : EReal) := Ideal.ofBits_zero_f32
  rw [val_main_v79_apply, val_main_v74_apply, val_main_v70_apply, val_main_v69_apply, val_main_v64_apply, val_main_v66_apply,
    val_main_v68_apply, val_main_v73_apply, val_main_v78_apply, val_main_v75_apply, val_main_v61_apply, val_main_v59_apply,
    e77, e72, e65, e67, e60, e63, count_eq, raw_eq, hz, hp, hf, hr]
  unfold Args.logit
  rw [hz, hp, hf, hr]
  exact pen_eq (A.count b v) (count_nonneg _ _) hr0 z

end Cert.ReferenceIdeal.Meaning
-- ==== Proof.RefResult.lean ====
module

public import proofs.«01_k».proof.Proof.RefLogits

@[expose] public section

set_option maxRecDepth 16384

/-! The reference's log of the sum of exponentials of each row, and its candidates' log probabilities. -/

noncomputable section

namespace Cert.ReferenceIdeal.Meaning

open Idealize.ShloMosaic hiding ix1 ix2 ix3
open Idealize.ShloMosaic.TcCoe Idealize.SL.Sem
open Idealize.ShloMosaic.ValueIdx
open Cert.ReferenceIdeal Cert.ReferenceIdeal.Gen Cert.ReferenceIdeal.Read
open Cert.KernelIdeal.Body (Args idx2_ext)

theorem bits_bot : (Ideal.ofBits .f32 0xFF800000#32 : EReal) = ⊥ := by simp [Ideal.ofBits, Ideal.ieee]
theorem bits_top : (Ideal.ofBits .f32 0x7F800000#32 : EReal) = ⊤ := by simp [Ideal.ofBits, Ideal.ieee]

/-! ## The log of the sum of exponentials -/

/-- The reference's largest logit of a row. -/
theorem max_eq (A : Args) (h : A.Usable) (b : Fin 128) :
    val_main_v80 (F := Ideal) A.x A.w A.s A.cn A.p A.f A.r (ix1 b) = A.top b := by
  have hR : S128x32000.Reduces [1] S128 := by decide
  unfold val_main_v80
  rw [Host.reduce_eq_fold_single FloatOps.maximumf _ _ reducesTo_S128x32000_S128_d1 hR h_S_]
  have hf : (val_main_v79 (F := Ideal) A.x A.w A.s A.cn A.p A.f A.r ∘ hR.lift (ix1 b)) = A.logit b := funext fun v => by
    have e : hR.lift (ix1 b) v = ix2 b v := idx2_ext rfl rfl
    show val_main_v79 (F := Ideal) A.x A.w A.s A.cn A.p A.f A.r (hR.lift (ix1 b) v) = _
    rw [e]
    exact logits_eq A h b v
  rw [hf]
  show (Finset.univ : Finset (Fin 32000)).fold max (Ideal.ofBits .f32 0xFF800000#32 : EReal) (A.logit b) = _
  rw [bits_bot]
  rfl

/-- The largest logit is a real number, so the reference keeps it. -/
theorem kept_max_eq (A : Args) (h : A.Usable) (b : Fin 128) :
    val_main_v86 (F := Ideal) A.x A.w A.s A.cn A.p A.f A.r (ix1 b) = A.top b := by
  obtain ⟨t, ht⟩ := h.real.top b
  have e81 : val_main_v81 (F := Ideal) (ix1 b) = (⊥ : EReal) := bits_bot
  have e83 : val_main_v83 (F := Ideal) (ix1 b) = (⊤ : EReal) := bits_top
  have h1 : (FloatOps.cmpf (F := Ideal) (φ := .f32) .ogt (t : EReal) (⊥ : EReal)) = 1#1 := by
    show BitVec.ofBool (decide ((⊥ : EReal) < t)) = 1#1
    rw [decide_eq_true (EReal.bot_lt_coe t)]
    rfl
  have h2 : (FloatOps.cmpf (F := Ideal) (φ := .f32) .olt (t : EReal) (⊤ : EReal)) = 1#1 := by
    show BitVec.ofBool (decide ((t : EReal) < ⊤)) = 1#1
    rw [decide_eq_true (EReal.coe_lt_top t)]
    rfl
  rw [val_main_v86_apply, val_main_v85_apply, val_main_v82_apply, val_main_v84_apply, max_eq A h, e81, e83, ht, h1, h2]
  rfl

/-- The reference's sum of exponentials of a row. -/
theorem sum_eq (A : Args) (h : A.Usable) (b : Fin 128) :
    val_main_v91 (F := Ideal) A.x A.w A.s A.cn A.p A.f A.r (ix1 b) = ∑ v : Fin 32000, Ideal.exp (A.logit b v - A.top b) := by
  have e0 : val_main_cst_18 (F := Ideal) (Shape.Idx.first h_S_) = (0 : EReal) := Ideal.ofBits_zero_f32
  rw [val_main_v91_apply, e0, zero_add]
  refine Finset.sum_congr rfl fun v _ => ?_
  have e : idx_main_v91 (ix1 b) v = ix2 b v := idx2_ext rfl rfl
  have e' : idx_main_v87 (idx_main_v88 (ix2 b v)) = ix1 b := funext fun a => Fin.ext (match a with | ⟨0, _⟩ => rfl)
  rw [e, val_main_v90_apply, val_main_v89_apply, val_main_v88_apply, val_main_v87_apply, e', kept_max_eq A h, logits_eq A h]
  rw [Ideal.hostUnary_exp_def, Ideal.subf_def]

theorem lse_eq (A : Args) (h : A.Usable) (b : Fin 128) :
    val_main_v93 (F := Ideal) A.x A.w A.s A.cn A.p A.f A.r (ix1 b) = A.lse b := by
  rw [val_main_v93_apply, val_main_v92_apply, kept_max_eq A h, sum_eq A h, Ideal.hostUnary_log_def, Ideal.addf_def]
  unfold Args.lse
  rfl

/-- The reference's first result. -/
theorem lse_row_eq (A : Args) (h : A.Usable) (b : Fin 128) :
    val_main_v98 (F := Ideal) A.x A.w A.s A.cn A.p A.f A.r (ix2 0 b) = A.lse b := by
  have e : idx_main_v98 (ix2 0 b) = ix1 b := funext fun a => Fin.ext (match a with
    | ⟨0, _⟩ => by show 0 * 128 + b.val = b.val; omega)
  rw [val_main_v98_apply, e]
  exact lse_eq A h b

/-! ## The candidates -/

/-- A gather of one column per row: the operand's element of the result's row at the clamped start index. -/
theorem gather_columns_apply {α : Type} (x : S128x32000.Idx → α) (idx : IVec S128x20x1 32) (y : S128x20.Idx) :
    Host.gather gather_S128x32000_S128x20x1_S128x20_n_1_0_0_1_2_11 x idx y
      = x (ix2 ⟨(y 0).val, idx2_lt0 y⟩ ⟨min (idx (takeIdx y)).toInt.toNat (32000 - 1), by omega⟩) := by
  unfold Host.gather
  congr 1
  funext a
  refine Fin.ext ?_
  show gather_S128x32000_S128x20x1_S128x20_n_1_0_0_1_2_11.start y idx a + gather_S128x32000_S128x20x1_S128x20_n_1_0_0_1_2_11.batchCoord y a
      + gather_S128x32000_S128x20x1_S128x20_n_1_0_0_1_2_11.offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S128x32000_S128x20x1_S128x20_n_1_0_0_1_2_11.operandBatchingDims from List.mem_singleton.mpr rfl)]
    rfl
  · rw [GatherDims.batchCoord_eq_zero _ _ _ (fun h => by simp [gather_S128x32000_S128x20x1_S128x20_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x32000_S128x20x1_S128x20_n_1_0_0_1_2_11.startIndexMap from List.mem_singleton.mpr rfl)]
    have hsi : gather_S128x32000_S128x20x1_S128x20_n_1_0_0_1_2_11.siIdx y
        ⟨List.idxOf (1 : Fin 2) gather_S128x32000_S128x20x1_S128x20_n_1_0_0_1_2_11.startIndexMap,
          List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

theorem gather_column_eq {α : Type} (x : S128x32000.Idx → α) (idx : IVec S128x20x1 32) (b : Fin 128) (t : Fin 20) (v : Fin 32000)
    (hv : (idx (takeIdx (ix2 b t))).toInt = v.val) :
    Host.gather gather_S128x32000_S128x20x1_S128x20_n_1_0_0_1_2_11 x idx (ix2 b t) = x (ix2 b v) := by
  rw [gather_columns_apply]
  refine congrArg x (idx2_ext rfl ?_)
  show min (idx (takeIdx (ix2 b t))).toInt.toNat (32000 - 1) = v.val
  rw [hv, Int.toNat_natCast]
  omega

theorem toInt_small {w : BitVec 32} (h : w.toNat < 32000) : w.toInt = w.toNat := BitVec.toInt_eq_toNat_of_lt (by omega)

/-- A candidate that is a column of the vocabulary is its own start index. -/
theorem start_eq (A : Args) (h : A.Usable) (b : Fin 128) (t : Fin 20) (i : S128x20x1.Idx) (hi : i = takeIdx (ix2 b t)) :
    val_main_call6_v5 (F := Ideal) A.cand i = A.cand (ix2 b t) := by
  subst hi
  have e : idx_main_call6_v5 (takeIdx (ix2 b t)) = ix2 b t := idx2_ext
    (by show ((b.val * 20 + t.val) * 1 + 0) / 20 = b.val; omega) (by show ((b.val * 20 + t.val) * 1 + 0) % 20 = t.val; omega)
  have hs : IntOp.cmpi .slt (A.cand (ix2 b t)) 0#32 = 0#1 := by
    show BitVec.ofBool (decide ((A.cand (ix2 b t)).toInt < 0)) = 0#1
    rw [toInt_small (h.cand _), decide_eq_false (by omega)]
    rfl
  rw [val_main_call6_v5_apply, e, val_main_call6_v4_apply, val_main_call6_v1_apply, val_main_call6_v0_apply, val_main_call6_c_apply, hs]
  rfl

theorem fold_one (g : Fin 1 → BitVec 1) : (Finset.univ : Finset (Fin 1)).fold IntOp.andi 1#1 g = IntOp.andi (g 0) 1#1 := by
  rw [Finset.univ_unique, Finset.fold_singleton]
  rfl

/-- Every candidate is in range. -/
theorem in_range (A : Args) (h : A.Usable) (b : Fin 128) (t : Fin 20) : val_main_call6_v12 (F := Ideal) A.cand (ix2 b t) = 1#1 := by
  have hR : S128x20x1.Reduces [2] S128x20 := by decide
  have e : hR.lift (ix2 b t) (0 : Fin 1) = takeIdx (ix2 b t) := funext fun a => Fin.ext (match a with
    | ⟨0, _⟩ => rfl
    | ⟨1, _⟩ => rfl
    | ⟨2, _⟩ => rfl)
  have h7 : IntOp.cmpi .sge (A.cand (ix2 b t)) 0#32 = 1#1 := by
    show BitVec.ofBool (decide ((0 : ℤ) ≤ (A.cand (ix2 b t)).toInt)) = 1#1
    rw [toInt_small (h.cand _), decide_eq_true (by omega)]
    rfl
  have h10 : IntOp.cmpi .sle (A.cand (ix2 b t)) 31999#32 = 1#1 := by
    have hc := h.cand (ix2 b t)
    show BitVec.ofBool (decide ((A.cand (ix2 b t)).toInt ≤ 31999)) = 1#1
    rw [toInt_small hc, decide_eq_true (by omega)]
    rfl
  unfold val_main_call6_v12
  rw [Host.reduce_eq_fold_single IntOp.andi _ _ reducesTo_S128x20x1_S128x20_d2 hR h_S_]
  refine (fold_one (val_main_call6_v11 (F := Ideal) A.cand ∘ hR.lift (ix2 b t))).trans ?_
  show IntOp.andi (val_main_call6_v11 (F := Ideal) A.cand (hR.lift (ix2 b t) (0 : Fin 1))) 1#1 = 1#1
  rw [e, val_main_call6_v11_apply, val_main_call6_v7_apply, val_main_call6_v10_apply, start_eq A h b t _ rfl,
    val_main_call6_v6_apply, val_main_call6_c_2_apply, val_main_call6_v9_apply, val_main_call6_v8_apply, val_main_call6_c_1_apply, h7, h10]
  rfl

/-- The reference's log probabilities of the candidates. -/
theorem logp_eq (A : Args) (h : A.Usable) (b : Fin 128) (t : Fin 20) :
    val_main_v97 (F := Ideal) A.x A.w A.s A.cn A.p A.f A.r A.cand (ix2 b t) = A.logit b (A.tok b t) - A.lse b := by
  have e : idx_main_v95 (idx_main_v96 (ix2 b t)) = ix1 b := funext fun a => Fin.ext (match a with | ⟨0, _⟩ => rfl)
  have hg : val_main_call6_v13 (F := Ideal) A.x A.w A.s A.cn A.p A.f A.r A.cand (ix2 b t) = A.logit b (A.tok b t) := by
    unfold val_main_call6_v13
    refine (gather_column_eq _ _ b t (A.tok b t) ?_).trans (logits_eq A h b (A.tok b t))
    rw [start_eq A h b t _ rfl, toInt_small (h.cand _)]
    exact congrArg Nat.cast (Nat.mod_eq_of_lt (h.cand (ix2 b t))).symm
  rw [val_main_v97_apply, val_main_v94_apply, in_range A h b t, hg, val_main_v96_apply, val_main_v95_apply, e, lse_eq A h]
  rfl

end Cert.ReferenceIdeal.Meaning
-- ==== Proof.Equation.lean ====
module

public import proofs.«01_k».proof.Proof.RefResult
public import Idealize.ShloMosaic.Lib.Claim

@[expose] public section

set_option maxRecDepth 16384

/-! The kernel's three result arrays are the reference's, for usable arguments. -/

noncomputable section

namespace Cert.Proof

open Idealize.ShloMosaic hiding ix1 ix2 ix3
open Idealize.ShloMosaic.TcCoe Idealize.SL.Sem
open Idealize.ShloMosaic.ValueIdx
open Cert.ReferenceIdeal.Read Cert.ReferenceIdeal.Meaning
open Cert.KernelIdeal.Body (Args argsOf idx2_ext G8_eq G9_eq G10_eq)

section
variable (m : (ℓ : Loc Cert.KernelIdeal.nD Cert.KernelIdeal.τ Cert.KernelIdeal.sig) → Buf (Elt Ideal) ℓ) (c : Dev Cert.KernelIdeal.nD)

theorem logits_same (h : (argsOf m c).Usable) :
    val_main_v79 (F := Ideal) (argsOf m c).x (argsOf m c).w (argsOf m c).s (argsOf m c).cn (argsOf m c).p (argsOf m c).f (argsOf m c).r
      = Cert.KernelIdeal.Value.G8 m c := by
  funext i
  have e : i = ix2 (i 0) (i 1) := idx2_ext rfl rfl
  rw [e]
  exact (logits_eq _ h (i 0) (i 1)).trans (G8_eq m c (i 0) (i 1)).symm

theorem lse_same (h : (argsOf m c).Usable) :
    val_main_v98 (F := Ideal) (argsOf m c).x (argsOf m c).w (argsOf m c).s (argsOf m c).cn (argsOf m c).p (argsOf m c).f (argsOf m c).r
      = Cert.KernelIdeal.Value.G9 m c := by
  funext i
  have e : i = ix2 0 (i 1) := idx2_ext (by have h0 : (i 0).val < 1 := (i 0).isLt; show (i 0).val = 0; omega) rfl
  rw [e]
  exact (lse_row_eq _ h (i 1)).trans (G9_eq m c h.real (i 1)).symm

theorem logp_same (h : (argsOf m c).Usable) :
    val_main_v97 (F := Ideal) (argsOf m c).x (argsOf m c).w (argsOf m c).s (argsOf m c).cn (argsOf m c).p (argsOf m c).f (argsOf m c).r
        (argsOf m c).cand
      = Cert.KernelIdeal.Value.G10 m c := by
  funext i
  have e : i = ix2 (i 0) (i 1) := idx2_ext rfl rfl
  rw [e]
  exact (logp_eq _ h (i 0) (i 1)).trans (G10_eq m c h.real (i 0) (i 1) (h.cand _)).symm

end

end Cert.Proof
-- ==== Proof.lean ====
/- The proof of the certificate's claim: every conjunct from the programs' runs. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Usable
public import proofs.«01_k».proof.Proof.Equation
public import Idealize.ShloMosaic.Adequacy
public import Idealize.ShloMosaic.Init

@[expose] public section

noncomputable section

namespace Cert.Proof

open Idealize.ShloMosaic Idealize.SL.Sem
open Idealize.ShloMosaic.StableHlo (launchContents launchContents_devRef)
open Cert.ReferenceIdeal.Read

/-- The reference's frame: it writes none of its arguments, and it has no semaphore. -/
theorem frame_ri : Cert.quiescent_ReferenceIdeal := fun m ρ _ =>
  θ_run_mono (Cert.ReferenceIdeal.Value.run (F := Ideal) m ρ) fun r h =>
    ⟨fun c => (h c).2.2.2, sem_eq_zero_of_no_sems (by decide) r.2⟩

/-- From memories that agree on usable arguments, the reference leaves the kernel's three arrays. -/
theorem algebraic : Cert.algebraic_KernelIdeal_ReferenceIdeal_pre_usable (hPre_usable := facts_usable) := by
  intro m g m' g' hu hag
  refine ⟨fun c => Cert.KernelIdeal.Value.G9 m c, fun c => Cert.KernelIdeal.Value.G10 m c, fun c => Cert.KernelIdeal.Value.G8 m c,
    θ_run_mono (Cert.KernelIdeal.Value.run (F := Ideal) m g) fun r h c => ⟨(h c).2.1, (h c).2.2.1, (h c).1, (h c).2.2.2⟩,
    θ_run_mono (Cert.ReferenceIdeal.Value.run (F := Ideal) m' g') fun r h c => ?_⟩
  obtain ⟨a0, a1, a2, a3, a4, a5, a6, a7⟩ := hag c
  have hA := usable_args m hu c
  refine ⟨(h c).1.trans ((val_main_v98_eq (launchContents m' c)).trans ?_), (h c).2.1.trans ((val_main_v97_eq (launchContents m' c)).trans ?_),
    (h c).2.2.1.trans ((val_main_v79_eq (launchContents m' c)).trans ?_), (h c).2.2.2⟩
  · rw [launchContents_devRef, launchContents_devRef, launchContents_devRef, launchContents_devRef, launchContents_devRef,
      launchContents_devRef, launchContents_devRef, a0, a1, a2, a3, a4, a5, a6]
    exact lse_same m c hA
  · rw [launchContents_devRef, launchContents_devRef, launchContents_devRef, launchContents_devRef, launchContents_devRef,
      launchContents_devRef, launchContents_devRef, launchContents_devRef, a0, a1, a2, a3, a4, a5, a6, a7]
    exact logp_same m c hA
  · rw [launchContents_devRef, launchContents_devRef, launchContents_devRef, launchContents_devRef, launchContents_devRef,
      launchContents_devRef, launchContents_devRef, a0, a1, a2, a3, a4, a5, a6]
    exact logits_same m c hA

theorem claim : Cert.Claim :=
  ⟨Cert.Kernel.Gen.facts, Cert.KernelIdeal.Gen.facts, Cert.ReferenceIdeal.Gen.facts, facts_usable,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, trivial, algebraic⟩

end Cert.Proof

end
